-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_symmetric [hPre_symmetric : Cert.Pre_symmetric.Facts] (m : (ℓ : Loc Cert.KernelIdeal.nD Cert.KernelIdeal.τ Cert.KernelIdeal.sig) → Buf (Elt Ideal) ℓ) : Prop :=
  ∀ c : Dev Cert.KernelIdeal.nD,
    (Cert.Pre_symmetric.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_symmetric [hPre_symmetric : Cert.Pre_symmetric.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_symmetric.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_symmetric [hKernelIdeal : Cert.KernelIdeal.Facts] [hPre_symmetric : Cert.Pre_symmetric.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_symmetric m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_symmetric [hReferenceIdeal : Cert.ReferenceIdeal.Facts] [hPre_symmetric : Cert.Pre_symmetric.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_symmetric m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_symmetric [hKernelIdeal : Cert.KernelIdeal.Facts] [hReferenceIdeal : Cert.ReferenceIdeal.Facts] [hPre_symmetric : Cert.Pre_symmetric.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_symmetric m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_symmetric : Cert.Pre_symmetric.Facts),
    quiescent_Kernel (hKernel := hKernel)
    ∧ quiescent_KernelIdeal (hKernelIdeal := hKernelIdeal)
    ∧ quiescent_KernelIdeal_pre_symmetric (hKernelIdeal := hKernelIdeal) (hPre_symmetric := hPre_symmetric)
    ∧ quiescent_ReferenceIdeal (hReferenceIdeal := hReferenceIdeal)
    ∧ quiescent_ReferenceIdeal_pre_symmetric (hReferenceIdeal := hReferenceIdeal) (hPre_symmetric := hPre_symmetric)
    ∧ preserves_Kernel_KernelIdeal
    ∧ algebraic_KernelIdeal_ReferenceIdeal_pre_symmetric (hKernelIdeal := hKernelIdeal) (hReferenceIdeal := hReferenceIdeal) (hPre_symmetric := hPre_symmetric)
-- ==== Pre_symmetric.lean ====
abbrev S64x1024x1 : Shape := ⟨3, ![64, 1024, 1]⟩
abbrev S1024x1024 : Shape := ⟨2, ![1024, 1024]⟩
abbrev S10x1x20 : Shape := ⟨3, ![10, 1, 20]⟩
abbrev S20 : Shape := ⟨1, ![20]⟩
abbrev S10x20x50 : Shape := ⟨3, ![10, 20, 50]⟩
abbrev S50 : Shape := ⟨1, ![50]⟩
abbrev S51200x300 : Shape := ⟨2, ![51200, 300]⟩
abbrev S300 : Shape := ⟨1, ![300]⟩
abbrev S300x10 : Shape := ⟨2, ![300, 10]⟩
abbrev S10 : Shape := ⟨1, ![10]⟩
abbrev S_ : Shape := ⟨0, ![]⟩

class Facts : Prop where
  transposes_S1024x1024_S1024x1024_1_0 : S1024x1024.Transposes [1, 0] S1024x1024
  reducesTo_S1024x1024_S_d0_1 : S1024x1024.ReducesTo [0, 1] S_
  h_S_ : 0 < S_.numel

variable [Facts]

def fn {F : FTy → Type} [FloatOps F] (main_arg0 : FVec F S64x1024x1 .f32) (main_arg1 : FVec F S1024x1024 .f32) (main_arg2 : FVec F S10x1x20 .f32) (main_arg3 : FVec F S20 .f32) (main_arg4 : FVec F S10x20x50 .f32) (main_arg5 : FVec F S50 .f32) (main_arg6 : FVec F S51200x300 .f32) (main_arg7 : FVec F S300 .f32) (main_arg8 : FVec F S300x10 .f32) (main_arg9 : FVec F S10 .f32) : IVec S_ 1 :=
  let main_v0 : FVec F S1024x1024 .f32 := (transpose S1024x1024 [1, 0] · transposes_S1024x1024_S1024x1024_1_0) main_arg1
  let main_v1 : IVec S1024x1024 1 := cmpf .oeq main_arg1 main_v0
  let main_c : IVec S_ 1 := constantI S_ 1 1#1
  let main_v2 : IVec S_ 1 := (fun x v => Host.reduce IntOp.andi x v reducesTo_S1024x1024_S_d0_1 h_S_) main_v1 main_c
  main_v2
-- ==== Kernel.lean ====
abbrev S64x1024x1 : Shape := ⟨3, ![64, 1024, 1]⟩
abbrev S1024x1024 : Shape := ⟨2, ![1024, 1024]⟩
abbrev S10x1x20 : Shape := ⟨3, ![10, 1, 20]⟩
abbrev S20 : Shape := ⟨1, ![20]⟩
abbrev S10x20x50 : Shape := ⟨3, ![10, 20, 50]⟩
abbrev S50 : Shape := ⟨1, ![50]⟩
abbrev S51200x300 : Shape := ⟨2, ![51200, 300]⟩
abbrev S300 : Shape := ⟨1, ![300]⟩
abbrev S300x10 : Shape := ⟨2, ![300, 10]⟩
abbrev S10 : Shape := ⟨1, ![10]⟩
abbrev S64x1024 : Shape := ⟨2, ![64, 1024]⟩
abbrev S10x20 : Shape := ⟨2, ![10, 20]⟩
abbrev S10x20x1x1 : Shape := ⟨4, ![10, 20, 1, 1]⟩
abbrev S20x1x1 : Shape := ⟨3, ![20, 1, 1]⟩
abbrev S50x50 : Shape := ⟨2, ![50, 50]⟩
abbrev S_ : Shape := ⟨0, ![]⟩
abbrev S50x1 : Shape := ⟨2, ![50, 1]⟩
abbrev S65536x50 : Shape := ⟨2, ![65536, 50]⟩
abbrev S2x20x50 : Shape := ⟨3, ![2, 20, 50]⟩
abbrev S16384x50 : Shape := ⟨2, ![16384, 50]⟩
abbrev S2x1280x1024 : Shape := ⟨3, ![2, 1280, 1024]⟩
abbrev S50x65536 : Shape := ⟨2, ![50, 65536]⟩
abbrev S1x20x1x1 : Shape := ⟨4, ![1, 20, 1, 1]⟩
abbrev S1x64x1024 : Shape := ⟨3, ![1, 64, 1024]⟩
abbrev S20x64x1024 : Shape := ⟨3, ![20, 64, 1024]⟩
abbrev S1280x1024 : Shape := ⟨2, ![1280, 1024]⟩
abbrev S1x1280x1024 : Shape := ⟨3, ![1, 1280, 1024]⟩
abbrev S20x65536 : Shape := ⟨2, ![20, 65536]⟩
abbrev S40x65536 : Shape := ⟨2, ![40, 65536]⟩
abbrev S40x50 : Shape := ⟨2, ![40, 50]⟩
abbrev S50x16384 : Shape := ⟨2, ![50, 16384]⟩
abbrev S64x51200 : Shape := ⟨2, ![64, 51200]⟩
abbrev S1x300 : Shape := ⟨2, ![1, 300]⟩
abbrev S1x10 : Shape := ⟨2, ![1, 10]⟩
abbrev S64x10 : Shape := ⟨2, ![64, 10]⟩
abbrev S64x3200 : Shape := ⟨2, ![64, 3200]⟩
abbrev S3200x300 : Shape := ⟨2, ![3200, 300]⟩
abbrev S64x300 : Shape := ⟨2, ![64, 300]⟩
abbrev S64 : Shape := ⟨1, ![64]⟩
abbrev S64x1 : Shape := ⟨2, ![64, 1]⟩

abbrev nBuf : Space → Nat
  | .hbm => 27
  | .vmem => 22
  | .smem => 0
  | _ => 0

abbrev bufTy : (tb : Table) → Fin (tcTables nBuf tb) → BufTy
  | .hbm, ⟨0, _⟩ => ⟨S64x1024x1, .f32⟩
  | .hbm, ⟨1, _⟩ => ⟨S1024x1024, .f32⟩
  | .hbm, ⟨2, _⟩ => ⟨S10x1x20, .f32⟩
  | .hbm, ⟨3, _⟩ => ⟨S20, .f32⟩
  | .hbm, ⟨4, _⟩ => ⟨S10x20x50, .f32⟩
  | .hbm, ⟨5, _⟩ => ⟨S50, .f32⟩
  | .hbm, ⟨6, _⟩ => ⟨S51200x300, .f32⟩
  | .hbm, ⟨7, _⟩ => ⟨S300, .f32⟩
  | .hbm, ⟨8, _⟩ => ⟨S300x10, .f32⟩
  | .hbm, ⟨9, _⟩ => ⟨S10, .f32⟩
  | .hbm, ⟨10, _⟩ => ⟨S64x1024, .f32⟩
  | .hbm, ⟨11, _⟩ => ⟨S10x20, .f32⟩
  | .hbm, ⟨12, _⟩ => ⟨S10x20x1x1, .f32⟩
  | .hbm, ⟨13, _⟩ => ⟨S20x1x1, .f32⟩
  | .hbm, ⟨14, _⟩ => ⟨S50x50, .i32⟩
  | .hbm, ⟨15, _⟩ => ⟨S50x50, .i32⟩
  | .hbm, ⟨16, _⟩ => ⟨S_, .i32⟩
  | .hbm, ⟨17, _⟩ => ⟨S50x50, .i32⟩
  | .hbm, ⟨18, _⟩ => ⟨S50x50, .i32⟩
  | .hbm, ⟨19, _⟩ => ⟨S50x50, .i1⟩
  | .hbm, ⟨20, _⟩ => ⟨S50x50, .f32⟩
  | .hbm, ⟨21, _⟩ => ⟨S50x1, .f32⟩
  | .hbm, ⟨22, _⟩ => ⟨S65536x50, .bf16⟩
  | .hbm, ⟨23, _⟩ => ⟨S64x51200, .bf16⟩
  | .hbm, ⟨24, _⟩ => ⟨S1x300, .f32⟩
  | .hbm, ⟨25, _⟩ => ⟨S1x10, .f32⟩
  | .hbm, ⟨26, _⟩ => ⟨S64x10, .f32⟩
  | .local _ .vmem, ⟨0, _⟩ => ⟨S64x1024, .f32⟩
  | .local _ .vmem, ⟨1, _⟩ => ⟨S1024x1024, .f32⟩
  | .local _ .vmem, ⟨2, _⟩ => ⟨S10x20x1x1, .f32⟩
  | .local _ .vmem, ⟨3, _⟩ => ⟨S20x1x1, .f32⟩
  | .local _ .vmem, ⟨4, _⟩ => ⟨S2x20x50, .f32⟩
  | .local _ .vmem, ⟨5, _⟩ => ⟨S2x20x50, .f32⟩
  | .local _ .vmem, ⟨6, _⟩ => ⟨S50x1, .f32⟩
  | .local _ .vmem, ⟨7, _⟩ => ⟨S50x50, .f32⟩
  | .local _ .vmem, ⟨8, _⟩ => ⟨S16384x50, .bf16⟩
  | .local _ .vmem, ⟨9, _⟩ => ⟨S16384x50, .bf16⟩
  | .local _ .vmem, ⟨10, _⟩ => ⟨S2x1280x1024, .f32⟩
  | .local _ .vmem, ⟨11, _⟩ => ⟨S50x65536, .f32⟩
  | .local _ .vmem, ⟨12, _⟩ => ⟨S1024x1024, .bf16⟩
  | .local _ .vmem, ⟨13, _⟩ => ⟨S64x3200, .bf16⟩
  | .local _ .vmem, ⟨14, _⟩ => ⟨S64x3200, .bf16⟩
  | .local _ .vmem, ⟨15, _⟩ => ⟨S3200x300, .f32⟩
  | .local _ .vmem, ⟨16, _⟩ => ⟨S3200x300, .f32⟩
  | .local _ .vmem, ⟨17, _⟩ => ⟨S1x300, .f32⟩
  | .local _ .vmem, ⟨18, _⟩ => ⟨S300x10, .f32⟩
  | .local _ .vmem, ⟨19, _⟩ => ⟨S1x10, .f32⟩
  | .local _ .vmem, ⟨20, _⟩ => ⟨S64x10, .f32⟩
  | .local _ .vmem, ⟨21, _⟩ => ⟨S64x300, .f32⟩
  | _, _ => ⟨S64x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_scratch0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c5_i32_3 : BitVec 32 := 5#32
  let v8 : BitVec 1 := Scalar.cmpi .eq arg0 c5_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c6_i32 : BitVec 32 := 6#32
  let v11 : BitVec 1 := Scalar.cmpi .eq arg0 c6_i32
  let v12 : BitVec 32 := Scalar.extui v11
  let c0_i32_5 : BitVec 32 := 0#32
  let v13 : BitVec 1 := Scalar.cmpi .ne v12 c0_i32_5
  v13

def k0_cond5 (i : grid0.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32_6 : BitVec 32 := 0#32
  let v16 : BitVec 1 := Scalar.cmpi .ne v15 c0_i32_6
  v16

def k0_cond6 (i : grid0.Coords) : BitVec 1 :=
  let arg0 : BitVec 32 := BitVec.ofNat 32 (i 0).val
  let c8_i32 : BitVec 32 := 8#32
  let v17 : BitVec 1 := Scalar.cmpi .eq arg0 c8_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x20x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x20x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S50x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16384x50 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def k1_cond3 (i : grid1.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x3200 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S300x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S64x1024x1 : Shape := ⟨3, ![64, 1024, 1]⟩
abbrev S1024x1024 : Shape := ⟨2, ![1024, 1024]⟩
abbrev S10x1x20 : Shape := ⟨3, ![10, 1, 20]⟩
abbrev S20 : Shape := ⟨1, ![20]⟩
abbrev S10x20x50 : Shape := ⟨3, ![10, 20, 50]⟩
abbrev S50 : Shape := ⟨1, ![50]⟩
abbrev S51200x300 : Shape := ⟨2, ![51200, 300]⟩
abbrev S300 : Shape := ⟨1, ![300]⟩
abbrev S300x10 : Shape := ⟨2, ![300, 10]⟩
abbrev S10 : Shape := ⟨1, ![10]⟩
abbrev S1x1x20 : Shape := ⟨3, ![1, 1, 20]⟩
abbrev S1x20 : Shape := ⟨2, ![1, 20]⟩
abbrev S64x1024x20 : Shape := ⟨3, ![64, 1024, 20]⟩
abbrev S64x1x1024 : Shape := ⟨3, ![64, 1, 1024]⟩
abbrev S_ : Shape := ⟨0, ![]⟩
abbrev S1x20x50 : Shape := ⟨3, ![1, 20, 50]⟩
abbrev S20x50 : Shape := ⟨2, ![20, 50]⟩
abbrev S64x1024x50 : Shape := ⟨3, ![64, 1024, 50]⟩
abbrev S64x20x1024 : Shape := ⟨3, ![64, 20, 1024]⟩
abbrev S1x1x50 : Shape := ⟨3, ![1, 1, 50]⟩
abbrev S64x51200 : Shape := ⟨2, ![64, 51200]⟩
abbrev S64x300 : Shape := ⟨2, ![64, 300]⟩
abbrev S1x300 : Shape := ⟨2, ![1, 300]⟩
abbrev S64x10 : Shape := ⟨2, ![64, 10]⟩
abbrev S1x10 : Shape := ⟨2, ![1, 10]⟩
abbrev S64 : Shape := ⟨1, ![64]⟩
abbrev S64x1 : Shape := ⟨2, ![64, 1]⟩

abbrev nBuf : Space → Nat
  | .hbm => 227
  | .vmem => 0
  | .smem => 0
  | _ => 0

abbrev hbmTy0_0 (i : Nat) : BufTy := match i % 128 with
  | 0 => ⟨S64x1024x1, .f32⟩
  | 1 => ⟨S1024x1024, .f32⟩
  | 2 => ⟨S10x1x20, .f32⟩
  | 3 => ⟨S20, .f32⟩
  | 4 => ⟨S10x20x50, .f32⟩
  | 5 => ⟨S50, .f32⟩
  | 6 => ⟨S51200x300, .f32⟩
  | 7 => ⟨S300, .f32⟩
  | 8 => ⟨S300x10, .f32⟩
  | 9 => ⟨S10, .f32⟩
  | 10 => ⟨S1x1x20, .f32⟩
  | 11 => ⟨S1x20, .f32⟩
  | 12 => ⟨S64x1024x20, .f32⟩
  | 13 => ⟨S64x1x1024, .f32⟩
  | 14 => ⟨S64x1024x1, .f32⟩
  | 15 => ⟨S1x1x20, .f32⟩
  | 16 => ⟨S1x20, .f32⟩
  | 17 => ⟨S64x1024x20, .f32⟩
  | 18 => ⟨S64x1024x20, .f32⟩
  | 19 => ⟨S64x1x1024, .f32⟩
  | 20 => ⟨S64x1024x1, .f32⟩
  | 21 => ⟨S_, .f32⟩
  | 22 => ⟨S64x1024x1, .f32⟩
  | 23 => ⟨S64x1024x1, .f32⟩
  | 24 => ⟨S64x1024x1, .f32⟩
  | 25 => ⟨S1x1x20, .f32⟩
  | 26 => ⟨S1x20, .f32⟩
  | 27 => ⟨S64x1024x20, .f32⟩
  | 28 => ⟨S64x1024x20, .f32⟩
  | 29 => ⟨S64x1x1024, .f32⟩
  | 30 => ⟨S64x1024x1, .f32⟩
  | 31 => ⟨S_, .f32⟩
  | 32 => ⟨S64x1024x1, .f32⟩
  | 33 => ⟨S64x1024x1, .f32⟩
  | 34 => ⟨S64x1024x1, .f32⟩
  | 35 => ⟨S1x1x20, .f32⟩
  | 36 => ⟨S1x20, .f32⟩
  | 37 => ⟨S64x1024x20, .f32⟩
  | 38 => ⟨S64x1024x20, .f32⟩
  | 39 => ⟨S64x1x1024, .f32⟩
  | 40 => ⟨S64x1024x1, .f32⟩
  | 41 => ⟨S_, .f32⟩
  | 42 => ⟨S64x1024x1, .f32⟩
  | 43 => ⟨S64x1024x1, .f32⟩
  | 44 => ⟨S64x1024x1, .f32⟩
  | 45 => ⟨S1x1x20, .f32⟩
  | 46 => ⟨S1x20, .f32⟩
  | 47 => ⟨S64x1024x20, .f32⟩
  | 48 => ⟨S64x1024x20, .f32⟩
  | 49 => ⟨S64x1x1024, .f32⟩
  | 50 => ⟨S64x1024x1, .f32⟩
  | 51 => ⟨S_, .f32⟩
  | 52 => ⟨S64x1024x1, .f32⟩
  | 53 => ⟨S64x1024x1, .f32⟩
  | 54 => ⟨S64x1024x1, .f32⟩
  | 55 => ⟨S1x1x20, .f32⟩
  | 56 => ⟨S1x20, .f32⟩
  | 57 => ⟨S64x1024x20, .f32⟩
  | 58 => ⟨S64x1024x20, .f32⟩
  | 59 => ⟨S64x1x1024, .f32⟩
  | 60 => ⟨S64x1024x1, .f32⟩
  | 61 => ⟨S_, .f32⟩
  | 62 => ⟨S64x1024x1, .f32⟩
  | 63 => ⟨S64x1024x1, .f32⟩
  | 64 => ⟨S64x1024x1, .f32⟩
  | 65 => ⟨S1x1x20, .f32⟩
  | 66 => ⟨S1x20, .f32⟩
  | 67 => ⟨S64x1024x20, .f32⟩
  | 68 => ⟨S64x1024x20, .f32⟩
  | 69 => ⟨S64x1x1024, .f32⟩
  | 70 => ⟨S64x1024x1, .f32⟩
  | 71 => ⟨S_, .f32⟩
  | 72 => ⟨S64x1024x1, .f32⟩
  | 73 => ⟨S64x1024x1, .f32⟩
  | 74 => ⟨S64x1024x1, .f32⟩
  | 75 => ⟨S1x1x20, .f32⟩
  | 76 => ⟨S1x20, .f32⟩
  | 77 => ⟨S64x1024x20, .f32⟩
  | 78 => ⟨S64x1024x20, .f32⟩
  | 79 => ⟨S64x1x1024, .f32⟩
  | 80 => ⟨S64x1024x1, .f32⟩
  | 81 => ⟨S_, .f32⟩
  | 82 => ⟨S64x1024x1, .f32⟩
  | 83 => ⟨S64x1024x1, .f32⟩
  | 84 => ⟨S64x1024x1, .f32⟩
  | 85 => ⟨S1x1x20, .f32⟩
  | 86 => ⟨S1x20, .f32⟩
  | 87 => ⟨S64x1024x20, .f32⟩
  | 88 => ⟨S64x1024x20, .f32⟩
  | 89 => ⟨S64x1x1024, .f32⟩
  | 90 => ⟨S64x1024x1, .f32⟩
  | 91 => ⟨S_, .f32⟩
  | 92 => ⟨S64x1024x1, .f32⟩
  | 93 => ⟨S64x1024x1, .f32⟩
  | 94 => ⟨S64x1024x1, .f32⟩
  | 95 => ⟨S1x1x20, .f32⟩
  | 96 => ⟨S1x20, .f32⟩
  | 97 => ⟨S64x1024x20, .f32⟩
  | 98 => ⟨S64x1024x20, .f32⟩
  | 99 => ⟨S1x1x20, .f32⟩
  | 100 => ⟨S64x1024x20, .f32⟩
  | 101 => ⟨S64x1024x20, .f32⟩
  | 102 => ⟨S_, .f32⟩
  | 103 => ⟨S64x1024x20, .f32⟩
  | 104 => ⟨S64x1024x20, .f32⟩
  | 105 => ⟨S1x20x50, .f32⟩
  | 106 => ⟨S20x50, .f32⟩
  | 107 => ⟨S64x1024x50, .f32⟩
  | 108 => ⟨S64x20x1024, .f32⟩
  | 109 => ⟨S64x1024x20, .f32⟩
  | 110 => ⟨S1x20x50, .f32⟩
  | 111 => ⟨S20x50, .f32⟩
  | 112 => ⟨S64x1024x50, .f32⟩
  | 113 => ⟨S64x1024x50, .f32⟩
  | 114 => ⟨S64x20x1024, .f32⟩
  | 115 => ⟨S64x1024x20, .f32⟩
  | 116 => ⟨S_, .f32⟩
  | 117 => ⟨S64x1024x20, .f32⟩
  | 118 => ⟨S64x1024x20, .f32⟩
  | 119 => ⟨S64x1024x20, .f32⟩
  | 120 => ⟨S1x20x50, .f32⟩
  | 121 => ⟨S20x50, .f32⟩
  | 122 => ⟨S64x1024x50, .f32⟩
  | 123 => ⟨S64x1024x50, .f32⟩
  | 124 => ⟨S64x20x1024, .f32⟩
  | 125 => ⟨S64x1024x20, .f32⟩
  | 126 => ⟨S_, .f32⟩
  | 127 => ⟨S64x1024x20, .f32⟩
  | _ => ⟨S64x1024x1, .f32⟩

abbrev hbmTy0_1 (i : Nat) : BufTy := match i % 128 with
  | 0 => ⟨S64x1024x20, .f32⟩
  | 1 => ⟨S64x1024x20, .f32⟩
  | 2 => ⟨S1x20x50, .f32⟩
  | 3 => ⟨S20x50, .f32⟩
  | 4 => ⟨S64x1024x50, .f32⟩
  | 5 => ⟨S64x1024x50, .f32⟩
  | 6 => ⟨S64x20x1024, .f32⟩
  | 7 => ⟨S64x1024x20, .f32⟩
  | 8 => ⟨S_, .f32⟩
  | 9 => ⟨S64x1024x20, .f32⟩
  | 10 => ⟨S64x1024x20, .f32⟩
  | 11 => ⟨S64x1024x20, .f32⟩
  | 12 => ⟨S1x20x50, .f32⟩
  | 13 => ⟨S20x50, .f32⟩
  | 14 => ⟨S64x1024x50, .f32⟩
  | 15 => ⟨S64x1024x50, .f32⟩
  | 16 => ⟨S64x20x1024, .f32⟩
  | 17 => ⟨S64x1024x20, .f32⟩
  | 18 => ⟨S_, .f32⟩
  | 19 => ⟨S64x1024x20, .f32⟩
  | 20 => ⟨S64x1024x20, .f32⟩
  | 21 => ⟨S64x1024x20, .f32⟩
  | 22 => ⟨S1x20x50, .f32⟩
  | 23 => ⟨S20x50, .f32⟩
  | 24 => ⟨S64x1024x50, .f32⟩
  | 25 => ⟨S64x1024x50, .f32⟩
  | 26 => ⟨S64x20x1024, .f32⟩
  | 27 => ⟨S64x1024x20, .f32⟩
  | 28 => ⟨S_, .f32⟩
  | 29 => ⟨S64x1024x20, .f32⟩
  | 30 => ⟨S64x1024x20, .f32⟩
  | 31 => ⟨S64x1024x20, .f32⟩
  | 32 => ⟨S1x20x50, .f32⟩
  | 33 => ⟨S20x50, .f32⟩
  | 34 => ⟨S64x1024x50, .f32⟩
  | 35 => ⟨S64x1024x50, .f32⟩
  | 36 => ⟨S64x20x1024, .f32⟩
  | 37 => ⟨S64x1024x20, .f32⟩
  | 38 => ⟨S_, .f32⟩
  | 39 => ⟨S64x1024x20, .f32⟩
  | 40 => ⟨S64x1024x20, .f32⟩
  | 41 => ⟨S64x1024x20, .f32⟩
  | 42 => ⟨S1x20x50, .f32⟩
  | 43 => ⟨S20x50, .f32⟩
  | 44 => ⟨S64x1024x50, .f32⟩
  | 45 => ⟨S64x1024x50, .f32⟩
  | 46 => ⟨S64x20x1024, .f32⟩
  | 47 => ⟨S64x1024x20, .f32⟩
  | 48 => ⟨S_, .f32⟩
  | 49 => ⟨S64x1024x20, .f32⟩
  | 50 => ⟨S64x1024x20, .f32⟩
  | 51 => ⟨S64x1024x20, .f32⟩
  | 52 => ⟨S1x20x50, .f32⟩
  | 53 => ⟨S20x50, .f32⟩
  | 54 => ⟨S64x1024x50, .f32⟩
  | 55 => ⟨S64x1024x50, .f32⟩
  | 56 => ⟨S64x20x1024, .f32⟩
  | 57 => ⟨S64x1024x20, .f32⟩
  | 58 => ⟨S_, .f32⟩
  | 59 => ⟨S64x1024x20, .f32⟩
  | 60 => ⟨S64x1024x20, .f32⟩
  | 61 => ⟨S64x1024x20, .f32⟩
  | 62 => ⟨S1x20x50, .f32⟩
  | 63 => ⟨S20x50, .f32⟩
  | 64 => ⟨S64x1024x50, .f32⟩
  | 65 => ⟨S64x1024x50, .f32⟩
  | 66 => ⟨S1x1x50, .f32⟩
  | 67 => ⟨S64x1024x50, .f32⟩
  | 68 => ⟨S64x1024x50, .f32⟩
  | 69 => ⟨S_, .f32⟩
  | 70 => ⟨S64x1024x50, .f32⟩
  | 71 => ⟨S64x1024x50, .f32⟩
  | 72 => ⟨S64x51200, .f32⟩
  | 73 => ⟨S64x300, .f32⟩
  | 74 => ⟨S1x300, .f32⟩
  | 75 => ⟨S64x300, .f32⟩
  | 76 => ⟨S64x300, .f32⟩
  | 77 => ⟨S_, .f32⟩
  | 78 => ⟨S64x300, .f32⟩
  | 79 => ⟨S64x300, .f32⟩
  | 80 => ⟨S64x10, .f32⟩
  | 81 => ⟨S1x10, .f32⟩
  | 82 => ⟨S64x10, .f32⟩
  | 83 => ⟨S64x10, .f32⟩
  | 84 => ⟨S_, .f32⟩
  | 85 => ⟨S64, .f32⟩
  | 86 => ⟨S_, .f32⟩
  | 87 => ⟨S64, .f32⟩
  | 88 => ⟨S64, .f32⟩
  | 89 => ⟨S64x1, .f32⟩
  | 90 => ⟨S64x10, .f32⟩
  | 91 => ⟨S64x10, .f32⟩
  | 92 => ⟨S64x10, .f32⟩
  | 93 => ⟨S_, .f32⟩
  | 94 => ⟨S64, .f32⟩
  | 95 => ⟨S64x1, .f32⟩
  | 96 => ⟨S64x1, .f32⟩
  | 97 => ⟨S64x10, .f32⟩
  | 98 => ⟨S64x10, .f32⟩
  | _ => ⟨S64x1024x1, .f32⟩

abbrev hbmTy (i : Nat) : BufTy := match i / 128 with
  | 0 => hbmTy0_0 i
  | 1 => hbmTy0_1 i
  | _ => ⟨S64x1024x1, .f32⟩

abbrev bufTy : (tb : Table) → Fin (tcTables nBuf tb) → BufTy
  | .hbm, ⟨i, _⟩ => hbmTy i
  | _, _ => ⟨S64x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_4 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_5 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_6 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_call0_cst : Ref sig .tc := ⟨.hbm, 102, rfl⟩
abbrev main_call0_v0 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_7 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_8 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_9 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_10 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_cst_11 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_cst_12 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_cst_13 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_cst_14 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_call1_cst : Ref sig .tc := ⟨.hbm, 197, rfl⟩
abbrev main_call1_v0 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_call2_cst : Ref sig .tc := ⟨.hbm, 205, rfl⟩
abbrev main_call2_v0 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_call3_cst : Ref sig .tc := ⟨.hbm, 212, rfl⟩
abbrev main_call3_v0 : Ref sig .tc := ⟨.hbm, 213, rfl⟩
abbrev main_call3_cst_0 : Ref sig .tc := ⟨.hbm, 214, rfl⟩
abbrev main_call3_v1 : Ref sig .tc := ⟨.hbm, 215, rfl⟩
abbrev main_call3_v2 : Ref sig .tc := ⟨.hbm, 216, rfl⟩
abbrev main_call3_v3 : Ref sig .tc := ⟨.hbm, 217, rfl⟩
abbrev main_call3_v4 : Ref sig .tc := ⟨.hbm, 218, rfl⟩
abbrev main_call3_v5 : Ref sig .tc := ⟨.hbm, 219, rfl⟩
abbrev main_call3_v6 : Ref sig .tc := ⟨.hbm, 220, rfl⟩
abbrev main_call3_cst_1 : Ref sig .tc := ⟨.hbm, 221, rfl⟩
abbrev main_call3_v7 : Ref sig .tc := ⟨.hbm, 222, rfl⟩
abbrev main_call3_v8 : Ref sig .tc := ⟨.hbm, 223, rfl⟩
abbrev main_call3_v9 : Ref sig .tc := ⟨.hbm, 224, rfl⟩
abbrev main_call3_v10 : Ref sig .tc := ⟨.hbm, 225, rfl⟩
abbrev main_v180 : Ref sig .tc := ⟨.hbm, 226, rfl⟩

abbrev nD : Nat := 1
abbrev τ : Topo := Topo.v7x

variable {F : FTy → Type} [FloatOps F]
-- ==== Proof.FcBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow

@[expose] public section

set_option maxRecDepth 16384

noncomputable section

namespace Cert.Proof.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the coordinate is zero. -/
abbrev isFirst (i : grid1.Coords) : Prop := (Scalar.cmpi .ne (Scalar.extui (Scalar.cmpi .eq (BitVec.ofNat 32 (i 0).val) 0#32)) 0#32) = 1#1
/-- The body's second branch is taken: the coordinate is positive. -/
abbrev isLater (i : grid1.Coords) : Prop := (Scalar.cmpi .ne (Scalar.extui (Scalar.cmpi .sgt (BitVec.ofNat 32 (i 0).val) 0#32)) 0#32) = 1#1
/-- The body's last branch is taken: the coordinate is the last one. -/
abbrev isLast (i : grid1.Coords) : Prop := k1_cond3 i = 1#1

/-- The accumulator after a point. -/
def step (i : grid1.Coords) (x0 : Vec F S64x3200 .bf16) (x1 : Vec F S3200x300 .f32) (xs : Vec F S64x300 .f32) : Vec F S64x300 .f32 :=
  if isFirst i then k1_pay2 x0 x1 else k1_pay3 x0 x1 xs

/-- The output block after a point. -/
def emit (i : grid1.Coords) (x2 : Vec F S1x300 .f32) (x3 : Vec F S300x10 .f32) (x4 : Vec F S1x10 .f32) (acc : Vec F S64x300 .f32) (d : Vec F S64x10 .f32) : Vec F S64x10 .f32 :=
  if isLast i then k1_pay4 acc x2 x3 x4 else d

set_option maxHeartbeats 4000000 in
/-- The body, from inputs, output and accumulator at any contents. -/
theorem body (c : Dev nD) (i : grid1.Coords) (hi : isLater i ↔ ¬ isFirst i)
    (arg1 : Memref sig .tc .vmem S64x3200 .bf16) (harg1 : arg1.IsWhole) (arg2 : Memref sig .tc .vmem S3200x300 .f32) (harg2 : arg2.IsWhole)
    (arg3 : Memref sig .tc .vmem S1x300 .f32) (harg3 : arg3.IsWhole) (arg4 : Memref sig .tc .vmem S300x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x300 .f32) (harg7 : arg7.IsWhole)
    (x0 : Vec F S64x3200 .bf16) (x1 : Vec F S3200x300 .f32) (x2 : Vec F S1x300 .f32) (x3 : Vec F S300x10 .f32) (x4 : Vec F S1x10 .f32)
    (d : Vec F S64x10 .f32) (xs : Vec F S64x300 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare d
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (emit i x2 x3 x4 (step i x0 x1 xs) d)
            ∗ owns (c : Thread nD τ) arg7 fullShare (step i x0 x1 xs)) -∗ K ⟨⟩))
      ⊢ wp frame (wpE (defs₀ (F := F)) Variants.none c none) E
          (cc1__fc_kernel i arg1 harg1 arg2 harg2 arg3 harg3 arg4 harg4 arg5 harg5 arg6 harg6 arg7 harg7) K := by
  unfold step emit
  simp only [cc1__fc_kernel_eq_skeleton]; unfold cc1__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hfs
  by_cases hc0 : isFirst i
  · have hc1 : ¬ isLater i := fun h => hi.mp h hc0
    rw [if_pos hc0]
    by_cases hc2 : isLast i
    · rw [if_pos hc2]
      sl_exec (disch := first | sl_exact hc0 | sl_exact hc1 | sl_exact hc2)
      sl_step
      iapply Hk
      isplitl [H0]; · iexists _; isplitr; swap; · iexact H0
                      ipureintro; exact hf0
      isplitl [H1]; · iexists _; isplitr; swap; · iexact H1
                      ipureintro; exact hf1
      isplitl [H2]; · iexists _; isplitr; swap; · iexact H2
                      ipureintro; exact hf2
      isplitl [H3]; · iexists _; isplitr; swap; · iexact H3
                      ipureintro; exact hf3
      isplitl [H4]; · iexists _; isplitr; swap; · iexact H4
                      ipureintro; exact hf4
      isplitl [H5]
      · iexists _; isplitr; swap; · iexact H5
        ipureintro
        rw [View.read_writes_full, View.readAt_full, View.readAt_full, View.readAt_full, hf2, hf3, hf4]
        exact congrArg (k1_pay4 · x2 x3 x4) ((View.readCov_full _ _ _ _ _).trans (by rw [View.readAt_full, View.readAt_full, hf0, hf1]))
      · iexists _; isplitr; swap; · iexact HS
        ipureintro
        exact (View.read_writes_full _ _ _ _ _).trans (by rw [View.readAt_full, View.readAt_full, hf0, hf1])
    · rw [if_neg hc2]
      sl_exec (disch := first | sl_exact hc0 | sl_exact hc1 | sl_exact hc2)
      sl_step
      iapply Hk
      isplitl [H0]; · iexists _; isplitr; swap; · iexact H0
                      ipureintro; exact hf0
      isplitl [H1]; · iexists _; isplitr; swap; · iexact H1
                      ipureintro; exact hf1
      isplitl [H2]; · iexists _; isplitr; swap; · iexact H2
                      ipureintro; exact hf2
      isplitl [H3]; · iexists _; isplitr; swap; · iexact H3
                      ipureintro; exact hf3
      isplitl [H4]; · iexists _; isplitr; swap; · iexact H4
                      ipureintro; exact hf4
      isplitl [H5]; · iexists _; isplitr; swap; · iexact H5
                      ipureintro; exact hf5
      iexists _; isplitr; swap; · iexact HS
      ipureintro
      exact (View.read_writes_full _ _ _ _ _).trans (by rw [View.readAt_full, View.readAt_full, hf0, hf1])
  · have hc1 : isLater i := hi.mpr hc0
    rw [if_neg hc0]
    by_cases hc2 : isLast i
    · rw [if_pos hc2]
      sl_exec (disch := first | sl_exact hc0 | sl_exact hc1 | sl_exact hc2)
      sl_step
      iapply Hk
      isplitl [H0]; · iexists _; isplitr; swap; · iexact H0
                      ipureintro; exact hf0
      isplitl [H1]; · iexists _; isplitr; swap; · iexact H1
                      ipureintro; exact hf1
      isplitl [H2]; · iexists _; isplitr; swap; · iexact H2
                      ipureintro; exact hf2
      isplitl [H3]; · iexists _; isplitr; swap; · iexact H3
                      ipureintro; exact hf3
      isplitl [H4]; · iexists _; isplitr; swap; · iexact H4
                      ipureintro; exact hf4
      isplitl [H5]
      · iexists _; isplitr; swap; · iexact H5
        ipureintro
        rw [View.read_writes_full, View.readAt_full, View.readAt_full, View.readAt_full, hf2, hf3, hf4]
        exact congrArg (k1_pay4 · x2 x3 x4) ((View.readCov_full _ _ _ _ _).trans (by rw [View.readAt_full, View.readAt_full, View.readAt_full, hf0, hf1, hfs]))
      · iexists _; isplitr; swap; · iexact HS
        ipureintro
        exact (View.read_writes_full _ _ _ _ _).trans (by rw [View.readAt_full, View.readAt_full, View.readAt_full, hf0, hf1, hfs])
    · rw [if_neg hc2]
      sl_exec (disch := first | sl_exact hc0 | sl_exact hc1 | sl_exact hc2)
      sl_step
      iapply Hk
      isplitl [H0]; · iexists _; isplitr; swap; · iexact H0
                      ipureintro; exact hf0
      isplitl [H1]; · iexists _; isplitr; swap; · iexact H1
                      ipureintro; exact hf1
      isplitl [H2]; · iexists _; isplitr; swap; · iexact H2
                      ipureintro; exact hf2
      isplitl [H3]; · iexists _; isplitr; swap; · iexact H3
                      ipureintro; exact hf3
      isplitl [H4]; · iexists _; isplitr; swap; · iexact H4
                      ipureintro; exact hf4
      isplitl [H5]; · iexists _; isplitr; swap; · iexact H5
                      ipureintro; exact hf5
      iexists _; isplitr; swap; · iexact HS
      ipureintro
      exact (View.read_writes_full _ _ _ _ _).trans (by rw [View.readAt_full, View.readAt_full, View.readAt_full, hf0, hf1, hfs])

end Cert.Proof.Fc
end
-- ==== Proof.ChebVals.lean ====
module

public import proofs.«01_k».proof.Proof.FcBody

@[expose] public section

set_option maxRecDepth 16384

noncomputable section

namespace Cert.Proof.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The values the first kernel computes at a point, as functions of the blocks it reads. `L` is the operator's block, `x` the signal's, `w`, `b` the first
layer's weights and bias, `W` the block of two of the second layer's weights. -/

/-- A load of a whole memref reads what the memref holds, -/
theorem readAt_whole {s : Shape} {e : EltTy} {m : Memref sig .tc .vmem s e} (h : m.IsWhole) (X : Vec F s e) {off : Fin s.rank → ℕ}
    (inb : ∀ a, off a + s.size a ≤ s.size a) : View.readAt (Elt F) m.view (Rect.unit off s.size inb).toLoadRect (h.unread X) = X :=
  (View.readAt_full _ _ _).trans (h.read_unread X)

/-- and a load of a part of it a window of that. -/
theorem readAt_part {s : Shape} {e : EltTy} {m : Memref sig .tc .vmem s e} (h : m.IsWhole) (X : Vec F s e) {off size : Fin s.rank → ℕ}
    (inb : ∀ a, off a + size a ≤ s.size a) :
    View.readAt (Elt F) m.view (Rect.unit off size inb).toLoadRect (h.unread X) = VecWindow.window X off size inb :=
  (View.readAt_unit _ _ _ rfl inb).trans (by rw [h.read_unread X])

/-- The slot of the terms' buffer that holds the earlier of the two last Chebyshev terms. -/
def lower (s : Vec F S2x1280x1024 .f32) : Vec F S1x1280x1024 .f32 :=
  VecWindow.window s ![0, 0, 0] S1x1280x1024.size inb_S2x1280x1024_S1x1280x1024_0_0_0
/-- The slot that holds the later one. -/
def upper (s : Vec F S2x1280x1024 .f32) : Vec F S1x1280x1024 .f32 :=
  VecWindow.window s ![1, 0, 0] S1x1280x1024.size inb_S2x1280x1024_S1x1280x1024_1_0_0
/-- The terms' buffer with both slots written. -/
def bothPut (s : Vec F S2x1280x1024 .f32) (lo hi : Vec F S1x1280x1024 .f32) : Vec F S2x1280x1024 .f32 :=
  VecWindow.put (VecWindow.put s ![0, 0, 0] S1x1280x1024.size lo) ![1, 0, 0] S1x1280x1024.size hi

/-- The upper half of two halves put together. -/
theorem upper_bothPut (s : Vec F S2x1280x1024 .f32) (lo hi : Vec F S1x1280x1024 .f32) : upper (bothPut s lo hi) = hi :=
  VecWindow.window_put_same _ _ _ _ _

/-- And the lower one. -/
theorem lower_bothPut (s : Vec F S2x1280x1024 .f32) (lo hi : Vec F S1x1280x1024 .f32) : lower (bothPut s lo hi) = lo :=
  (VecWindow.window_put_of_disjoint _ _ _ _ _ _ _ (0 : Fin 3) (.inl (by decide))).trans (VecWindow.window_put_same _ _ _ _ _)

/-- The first layer's weights of one term. -/
abbrev weight (w : Vec F S10x20x1x1 .f32) (k : ℕ) (hk : ∀ a, (![k, 0, 0, 0] : Fin 4 → ℕ) a + S1x20x1x1.size a ≤ S10x20x1x1.size a) : Vec F S1x20x1x1 .f32 :=
  VecWindow.window w ![k, 0, 0, 0] S1x20x1x1.size hk

/-- The sixth Chebyshev term of the signal, counting from one. -/
def termSix (L : Vec F S1024x1024 .f32) (x : Vec F S64x1024 .f32) : FVec F S64x1024 .f32 :=
  k0_pay20 (k0_pay11 L) (k0_pay14 L x) (k0_pay15 L x) (k0_pay17 L x)
/-- The seventh. -/
def termSeven (L : Vec F S1024x1024 .f32) (x : Vec F S64x1024 .f32) : FVec F S64x1024 .f32 :=
  k0_pay22 (k0_pay11 L) (k0_pay14 L x) (k0_pay15 L x) (k0_pay17 L x)
/-- The tenth. -/
def termTen (L : Vec F S1024x1024 .f32) (x : Vec F S64x1024 .f32) : FVec F S64x1024 .f32 :=
  k0_pay26 (k0_pay11 L) (termSix L x) (termSeven L x)
/-- The first six terms, weighed and summed. -/
def sumSix (L : Vec F S1024x1024 .f32) (x : Vec F S64x1024 .f32) (w : Vec F S10x20x1x1 .f32) : FVec F S20x64x1024 .f32 :=
  k0_pay21 (k0_pay11 L) (k0_pay14 L x) (k0_pay15 L x)
    (k0_pay16 L x (weight w 0 inb_S10x20x1x1_S1x20x1x1_0_0_0_0) (weight w 1 inb_S10x20x1x1_S1x20x1x1_1_0_0_0) (weight w 2 inb_S10x20x1x1_S1x20x1x1_2_0_0_0))
    (k0_pay17 L x) (weight w 3 inb_S10x20x1x1_S1x20x1x1_3_0_0_0) (weight w 4 inb_S10x20x1x1_S1x20x1x1_4_0_0_0) (weight w 5 inb_S10x20x1x1_S1x20x1x1_5_0_0_0)
/-- The first nine. -/
def sumNine (L : Vec F S1024x1024 .f32) (x : Vec F S64x1024 .f32) (w : Vec F S10x20x1x1 .f32) : FVec F S20x64x1024 .f32 :=
  k0_pay25 (k0_pay11 L) (termSix L x) (sumSix L x w) (termSeven L x)
    (weight w 6 inb_S10x20x1x1_S1x20x1x1_6_0_0_0) (weight w 7 inb_S10x20x1x1_S1x20x1x1_7_0_0_0) (weight w 8 inb_S10x20x1x1_S1x20x1x1_8_0_0_0)
/-- The tenth term's weights. -/
def weightTen (w : Vec F S10x20x1x1 .f32) : FVec F S20x1x1 .f32 := k0_pay27 (weight w 9 inb_S10x20x1x1_S1x20x1x1_9_0_0_0)

/-- The first point writes the first layer's result into the lower slot, -/
def startLower (L : Vec F S1024x1024 .f32) (x : Vec F S64x1024 .f32) (w : Vec F S10x20x1x1 .f32) (b : Vec F S20x1x1 .f32) : Vec F S1x1280x1024 .f32 :=
  k0_pay3 (sumNine L x w) (termTen L x) (weightTen w) b
/-- its product with the operator into the upper one, -/
def startUpper (L : Vec F S1024x1024 .f32) (x : Vec F S64x1024 .f32) (w : Vec F S10x20x1x1 .f32) (b : Vec F S20x1x1 .f32) : Vec F S1x1280x1024 .f32 :=
  k0_pay4 (k0_pay11 L) (sumNine L x w) (termTen L x) (weightTen w) b
/-- and both, weighed, into the accumulator. -/
def startAcc (L : Vec F S1024x1024 .f32) (x : Vec F S64x1024 .f32) (w : Vec F S10x20x1x1 .f32) (b : Vec F S20x1x1 .f32) (W : Vec F S2x20x50 .f32) :
    Vec F S50x65536 .f32 :=
  k0_pay5 (k0_pay11 L) (sumNine L x w) (termTen L x) (weightTen w) b W

/-- A later point of the recurrence writes the next two terms, from twice the operator and the two terms before them. -/
def nextLower (M : Vec F S1024x1024 .bf16) (lo hi : Vec F S1x1280x1024 .f32) : Vec F S1x1280x1024 .f32 := k0_pay30 M hi lo
/-- The later of the two terms. -/
def nextUpper (M : Vec F S1024x1024 .bf16) (lo hi : Vec F S1x1280x1024 .f32) : Vec F S1x1280x1024 .f32 := k0_pay31 M hi lo hi
/-- The sums, with the two new terms' shares added. -/
def nextAcc (M : Vec F S1024x1024 .bf16) (lo hi : Vec F S1x1280x1024 .f32) (a : Vec F S50x65536 .f32) (W : Vec F S2x20x50 .f32) : Vec F S50x65536 .f32 :=
  k0_pay6 (k0_pay32 M hi lo hi a W)

/-- The block of the second layer's result that one of the last points writes, from a quarter of the accumulator's columns. -/
def quarter (a : Vec F S50x16384 .f32) (b : Vec F S50x1 .f32) (e : Vec F S50x50 .f32) : Vec F S16384x50 .bf16 := k0_pay7 a b e

/-- The body's branches: the first point, -/
abbrev isFirst (i : grid0.Coords) : Prop := Scalar.cmpi .ne (Scalar.extui (Scalar.cmpi .eq (BitVec.ofNat 32 (i 0).val) 0#32)) 0#32 = 1#1
/-- and the next four. -/
abbrev isNext (i : grid0.Coords) : Prop :=
  Scalar.cmpi .ne (Scalar.extui (Scalar.andi (Scalar.cmpi .sgt (BitVec.ofNat 32 (i 0).val) 0#32) (Scalar.cmpi .slt (BitVec.ofNat 32 (i 0).val) 5#32))) 0#32 = 1#1

end Cert.Proof.Cheb
end
-- ==== Proof.ChebData.lean ====
module

public import proofs.«01_k».proof.Proof.ChebVals
public import Idealize.ShloMosaic.Lib.Pipeline.RegionArraysS

@[expose] public section

set_option maxRecDepth 16384

noncomputable section

namespace Cert.Proof.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches, by the grid point -/

/-- Which branch each of the nine points takes. -/
theorem branches : ∀ t : Fin grid0.N, (isFirst (grid0.coords t) ↔ t.val = 0) ∧ (isNext (grid0.coords t) ↔ 1 ≤ t.val ∧ t.val ≤ 4)
    ∧ (k0_cond3 (grid0.coords t) = 1#1 ↔ t.val = 5) ∧ (k0_cond4 (grid0.coords t) = 1#1 ↔ t.val = 6)
    ∧ (k0_cond5 (grid0.coords t) = 1#1 ↔ t.val = 7) ∧ (k0_cond6 (grid0.coords t) = 1#1 ↔ t.val = 8) := by decide +kernel

/-- Before the fifth point the body leaves the output alone, and nothing of it is written back. -/
theorem idle_early (t : Fin cfg0.N) (h : t.val < 5) : cfg0.idle 7 (cfg0.grid.coords t) = true ∧ (cfg0.win 7).flush t = false :=
  (by decide +kernel : ∀ t : Fin cfg0.N, t.val < 5 → cfg0.idle 7 (cfg0.grid.coords t) = true ∧ (cfg0.win 7).flush t = false) t h

/-- From the fifth point on the body writes the output. -/
theorem busy_late (t : Fin cfg0.N) (h : 5 ≤ t.val) : cfg0.idle 7 (cfg0.grid.coords t) = false :=
  (by decide +kernel : ∀ t : Fin cfg0.N, 5 ≤ t.val → cfg0.idle 7 (cfg0.grid.coords t) = false) t h

/-! ## What the buffers hold, point by point -/

variable (W : Dev nD → Valuation τ sig (Elt F))

/-- The block of window `w` at a point, read off its array at the region's entry. -/
def blk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- A number as a point. -/
def pt (n : ℕ) : Fin cfg0.N := ⟨n % 9, Nat.lt_of_lt_of_eq (Nat.mod_lt _ (by decide)) N_0.symm⟩

/-- A point is the one of its number. -/
theorem pt_val (t : Fin cfg0.N) : pt t.val = t := Fin.ext (Nat.mod_eq_of_lt (Nat.lt_of_lt_of_eq t.isLt N_0))

/-- Twice the operator, as the first point keeps it. -/
def twice (c : Dev nD) : Vec F S1024x1024 .bf16 := k0_pay12 (blk W c 1 (pt 0))

/-- The two Chebyshev terms kept after point `n`. -/
def terms (c : Dev nD) : ℕ → Vec F S1x1280x1024 .f32 × Vec F S1x1280x1024 .f32
  | 0 => (startLower (blk W c 1 (pt 0)) (blk W c 0 (pt 0)) (blk W c 2 (pt 0)) (blk W c 3 (pt 0)),
      startUpper (blk W c 1 (pt 0)) (blk W c 0 (pt 0)) (blk W c 2 (pt 0)) (blk W c 3 (pt 0)))
  | n + 1 => (nextLower (twice W c) (terms c n).1 (terms c n).2, nextUpper (twice W c) (terms c n).1 (terms c n).2)

/-- The accumulator after point `n`. -/
def sums (c : Dev nD) : ℕ → Vec F S50x65536 .f32
  | 0 => startAcc (blk W c 1 (pt 0)) (blk W c 0 (pt 0)) (blk W c 2 (pt 0)) (blk W c 3 (pt 0)) (blk W c 4 (pt 0))
  | n + 1 => nextAcc (twice W c) (terms W c n).1 (terms W c n).2 (sums c n) (blk W c 4 (pt (n + 1)))

/-- The four quarters of the columns lie inside the sums. -/
theorem quarter_inb (q : Fin 4) : ∀ a, (![0, 16384 * q.val] : Fin 2 → ℕ) a + S50x16384.size a ≤ S50x65536.size a := by
  revert q; decide

/-- What a point past the recurrence writes into the output's buffer: its quarter of the result. -/
def out (c : Dev nD) (t : Fin cfg0.N) : Vec F S16384x50 .bf16 :=
  quarter (VecWindow.window (sums W c 4) ![0, 16384 * ((t.val - 5) % 4)] S50x16384.size (quarter_inb ⟨(t.val - 5) % 4, Nat.mod_lt _ (by decide)⟩))
    (blk W c 5 t) (blk W c 6 t)

/-- A quarter cut at any offset that is the point's is what the point writes. -/
theorem out_eq (c : Dev nD) (t : Fin cfg0.N) (o : ℕ) (inb : ∀ a, (![0, o] : Fin 2 → ℕ) a + S50x16384.size a ≤ S50x65536.size a)
    (h : 16384 * ((t.val - 5) % 4) = o) :
    quarter (VecWindow.window (sums W c 4) ![0, o] S50x16384.size inb) (blk W c 5 t) (blk W c 6 t) = out W c t := by
  subst h; rfl

/-- What the scratch buffers hold before point `n`: nothing is known of them before the first. -/
def Good (c : Dev nD) (n : ℕ) (s : Vec F S2x1280x1024 .f32) (a : Vec F S50x65536 .f32) (M : Vec F S1024x1024 .bf16) : Prop :=
  0 < n → lower s = (terms W c (min (n - 1) 4)).1 ∧ upper s = (terms W c (min (n - 1) 4)).2 ∧ a = sums W c (min (n - 1) 4) ∧ M = twice W c

/-- After the first point the scratch buffers hold the first two terms, their weighted sum and twice the operator. -/
theorem good_first (c : Dev nD) (s : Vec F S2x1280x1024 .f32) (n : ℕ) (hn : n = 1) :
    Good W c n (bothPut s (startLower (blk W c 1 (pt 0)) (blk W c 0 (pt 0)) (blk W c 2 (pt 0)) (blk W c 3 (pt 0)))
        (startUpper (blk W c 1 (pt 0)) (blk W c 0 (pt 0)) (blk W c 2 (pt 0)) (blk W c 3 (pt 0))))
      (startAcc (blk W c 1 (pt 0)) (blk W c 0 (pt 0)) (blk W c 2 (pt 0)) (blk W c 3 (pt 0)) (blk W c 4 (pt 0))) (k0_pay12 (blk W c 1 (pt 0))) :=
  hn ▸ fun _ => ⟨lower_bothPut _ _ _, upper_bothPut _ _ _, rfl, rfl⟩

/-- A point of the recurrence takes what they hold two terms further. -/
theorem good_next (c : Dev nD) (n : ℕ) (h1 : 1 ≤ n) (h4 : n ≤ 4) (s : Vec F S2x1280x1024 .f32) (a : Vec F S50x65536 .f32) (M : Vec F S1024x1024 .bf16)
    (h : Good W c n s a M) :
    Good W c (n + 1) (bothPut s (nextLower M (lower s) (upper s)) (nextUpper M (lower s) (upper s)))
      (nextAcc M (lower s) (upper s) a (blk W c 4 (pt n))) M := by
  obtain ⟨k, rfl⟩ := Nat.exists_eq_add_of_le' h1
  obtain ⟨e1, e2, e3, e4⟩ := h (Nat.succ_pos k)
  rw [show min (k + 1 - 1) 4 = k by omega] at e1 e2 e3
  intro _
  rw [show min (k + 1 + 1 - 1) 4 = k + 1 by omega, lower_bothPut, upper_bothPut, e1, e2, e3, e4]
  exact ⟨rfl, rfl, rfl, rfl⟩

/-- A later point keeps them, and reads the whole sum. -/
theorem good_stay (c : Dev nD) (n : ℕ) (h5 : 5 ≤ n) (s : Vec F S2x1280x1024 .f32) (a : Vec F S50x65536 .f32) (M : Vec F S1024x1024 .bf16)
    (h : Good W c n s a M) : Good W c (n + 1) s a M ∧ a = sums W c 4 := by
  have h' := h (by omega)
  rw [show min (n - 1) 4 = 4 by omega] at h'
  refine ⟨fun _ => ?_, h'.2.2.1⟩
  rw [show min (n + 1 - 1) 4 = 4 by omega]; exact h'

/-- The scratch buffers as memrefs. -/
abbrev scrS : Memref sig .tc .vmem S2x1280x1024 .f32 := Memref.whole cc0_scratch0
/-- The weighted sums' buffer. -/
abbrev scrA : Memref sig .tc .vmem S50x65536 .f32 := Memref.whole cc0_scratch1
/-- The doubled operator's buffer. -/
abbrev scrM : Memref sig .tc .vmem S1024x1024 .bf16 := Memref.whole cc0_scratch2

/-- Between points: the scratch buffers at what the points before left, every other scoped buffer at anything. -/
def inv (c : Dev nD) (n : ℕ) : sProp 𝕄 :=
  iprop((∃ s a M, ⌜Good W c n s a M⌝ ∗ owns (c : Thread nD τ) scrS fullShare s ∗ owns (c : Thread nD τ) scrA fullShare a
    ∗ owns (c : Thread nD τ) scrM fullShare M) ∗ Pipeline.scopedRestBut spec0 c [cc0_scratch0, cc0_scratch1, cc0_scratch2])

/-- The region's proof data: its arrays at the entry; after a point every input's buffer at its block and the output's at its quarter of
the result (written there, and written back, at the last four points only); nothing owed. -/
def dat (c : Dev nD) : Dat τ (Elt F) Unit ℕ (UR sig nD τ) ℕ cfg0 c where
  A w := W c (Pipeline.arrRef spec0 w)
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => blk W c 6 t
    | ⟨7, _⟩ => out W c t
  Φ t := inv W c t.val
  q _ := fullShare
  owed _ := 0

/-- Three whole scratch buffers at anything, as the launch hands them over. -/
theorem scratch_eq (c : Dev nD) :
    (Idealize.SL.BI.bigSepL [cc0_scratch0, cc0_scratch1, cc0_scratch2] (fun b => iprop(∃ f : Buf (Elt F) ((c : Thread nD τ).loc b), ((c : Thread nD τ).loc b) ↦{fullShare} f)) : sProp 𝕄)
      = iprop((∃ s, owns (c : Thread nD τ) scrS fullShare s) ∗ (∃ a, owns (c : Thread nD τ) scrA fullShare a) ∗ (∃ M, owns (c : Thread nD τ) scrM fullShare M)) := by
  simp only [scrS, scrA, scrM, owns_whole]; rfl

/-- The region starts from the scoped buffers at anything, -/
theorem inv_start (c : Dev nD) : (Pipeline.scopedRest spec0 c : sProp 𝕄) ⊢ (dat W c).Φ 0 := by
  rw [Pipeline.scopedRest_split_of_list spec0 c [cc0_scratch0, cc0_scratch1, cc0_scratch2] (by decide) (by decide), scratch_eq c]
  show iprop(((∃ s, owns (c : Thread nD τ) scrS fullShare s) ∗ (∃ a, owns (c : Thread nD τ) scrA fullShare a) ∗ (∃ M, owns (c : Thread nD τ) scrM fullShare M))
    ∗ Pipeline.scopedRestBut spec0 c [cc0_scratch0, cc0_scratch1, cc0_scratch2]) ⊢ inv W c 0
  unfold inv
  iintro ⟨⟨⟨%s, HS⟩, ⟨%a, HA⟩, ⟨%M, HM⟩⟩, Hr⟩
  isplitr [Hr]
  · iexists s; iexists a; iexists M
    isplitr
    · ipureintro; exact fun h => absurd h (Nat.lt_irrefl 0)
    isplitl [HS]; · iexact HS
    isplitl [HA]; · iexact HA
    iexact HM
  iexact Hr

/-- and gives them back. -/
theorem inv_end (c : Dev nD) (t : Fin (cfg0.N + 1)) : (dat W c).Φ t ⊢ (Pipeline.scopedRest spec0 c : sProp 𝕄) := by
  rw [Pipeline.scopedRest_split_of_list spec0 c [cc0_scratch0, cc0_scratch1, cc0_scratch2] (by decide) (by decide), scratch_eq c]
  show inv W c t.val ⊢ iprop(((∃ s, owns (c : Thread nD τ) scrS fullShare s) ∗ (∃ a, owns (c : Thread nD τ) scrA fullShare a) ∗ (∃ M, owns (c : Thread nD τ) scrM fullShare M))
    ∗ Pipeline.scopedRestBut spec0 c [cc0_scratch0, cc0_scratch1, cc0_scratch2])
  unfold inv
  iintro ⟨⟨%s, %a, %M, %_, HS, HA, HM⟩, Hr⟩
  isplitr [Hr]
  · isplitl [HS]; · iexists s; iexact HS
    isplitl [HA]; · iexists a; iexact HA
    iexists M; iexact HM
  iexact Hr

/-- An input's buffer holds its block when the body runs. -/
theorem before_in (c : Dev nD) (t : Fin cfg0.N) : (∀ d, (dat W c).before 0 t d = blk W c 0 t) ∧ (∀ d, (dat W c).before 1 t d = blk W c 1 t)
    ∧ (∀ d, (dat W c).before 2 t d = blk W c 2 t) ∧ (∀ d, (dat W c).before 3 t d = blk W c 3 t) ∧ (∀ d, (dat W c).before 4 t d = blk W c 4 t)
    ∧ (∀ d, (dat W c).before 5 t d = blk W c 5 t) ∧ (∀ d, (dat W c).before 6 t d = blk W c 6 t) := by
  refine ⟨fun d => ?_, fun d => ?_, fun d => ?_, fun d => ?_, fun d => ?_, fun d => ?_, fun d => ?_⟩ <;>
    exact ((dat W c).before_in_eq_fetched _ rfl (fun _ => rfl) (fun _ _ _ => rfl) (fun _ => rfl) t d).trans rfl

end Cert.Proof.Cheb
end
-- ==== Proof.ChebFirst.lean ====
module

public import proofs.«01_k».proof.Proof.ChebVals

@[expose] public section

set_option maxRecDepth 16384

noncomputable section

namespace Cert.Proof.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the first point. -/
theorem first (c : Dev nD) (i : grid0.Coords) (hc1 : isFirst i) (hc2 : ¬ isNext i) (hc3 : ¬ k0_cond3 i = 1#1) (hc4 : ¬ k0_cond4 i = 1#1)
    (hc5 : ¬ k0_cond5 i = 1#1) (hc6 : ¬ k0_cond6 i = 1#1)
    (arg1 : Memref sig .tc .vmem S64x1024 .f32) (harg1 : arg1.IsWhole) (arg2 : Memref sig .tc .vmem S1024x1024 .f32) (harg2 : arg2.IsWhole) (arg3 : Memref sig .tc .vmem S10x20x1x1 .f32) (harg3 : arg3.IsWhole)
     (arg4 : Memref sig .tc .vmem S20x1x1 .f32) (harg4 : arg4.IsWhole) (arg5 : Memref sig .tc .vmem S2x20x50 .f32) (harg5 : arg5.IsWhole) (arg6 : Memref sig .tc .vmem S50x1 .f32) (harg6 : arg6.IsWhole)
     (arg7 : Memref sig .tc .vmem S50x50 .f32) (harg7 : arg7.IsWhole) (arg8 : Memref sig .tc .vmem S16384x50 .bf16) (harg8 : arg8.IsWhole) (arg9 : Memref sig .tc .vmem S2x1280x1024 .f32) (harg9 : arg9.IsWhole)
     (arg10 : Memref sig .tc .vmem S50x65536 .f32) (harg10 : arg10.IsWhole) (arg11 : Memref sig .tc .vmem S1024x1024 .bf16) (harg11 : arg11.IsWhole)
    (x : Vec F S64x1024 .f32) (L : Vec F S1024x1024 .f32) (w : Vec F S10x20x1x1 .f32) (b : Vec F S20x1x1 .f32) (W : Vec F S2x20x50 .f32) (b2 : Vec F S50x1 .f32) (e : Vec F S50x50 .f32) (d : Vec F S16384x50 .bf16) (s : Vec F S2x1280x1024 .f32) (a : Vec F S50x65536 .f32) (M : Vec F S1024x1024 .bf16) (E : Set ℕ) (K : PUnit → sProp 𝕄) :
    iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare d
        ∗ owns (c : Thread nD τ) arg9 fullShare s
        ∗ owns (c : Thread nD τ) arg10 fullShare a
        ∗ owns (c : Thread nD τ) arg11 fullShare M
        ∗ (iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare d
        ∗ owns (c : Thread nD τ) arg9 fullShare (bothPut s (startLower L x w b) (startUpper L x w b))
        ∗ owns (c : Thread nD τ) arg10 fullShare (startAcc L x w b W)
        ∗ owns (c : Thread nD τ) arg11 fullShare (k0_pay12 L)) -∗ K ⟨⟩))
      ⊢ wp frame (wpE (defs₀ (F := F)) Variants.none c none) E
          (cc0__cheb_kernel i arg1 harg1 arg2 harg2 arg3 harg3 arg4 harg4 arg5 harg5 arg6 harg6 arg7 harg7 arg8 harg8 arg9 harg9 arg10 harg10 arg11 harg11) K := by
  simp only [cc0__cheb_kernel_eq_skeleton]; unfold cc0__cheb_kernel_skel
  simp only [k0_part1_eq_skeleton, k0_part2_eq_skeleton, k0_part3_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, Hk⟩
  obtain rfl := harg1.eq_unread h1; obtain rfl := harg2.eq_unread h2; obtain rfl := harg3.eq_unread h3; obtain rfl := harg4.eq_unread h4
  obtain rfl := harg5.eq_unread h5; obtain rfl := harg6.eq_unread h6; obtain rfl := harg7.eq_unread h7; obtain rfl := harg8.eq_unread h8
  obtain rfl := harg9.eq_unread h9; obtain rfl := harg10.eq_unread h10; obtain rfl := harg11.eq_unread h11
  sl_exec (disch := first | sl_exact hc1 | sl_exact hc2 | sl_exact hc3 | sl_exact hc4 | sl_exact hc5 | sl_exact hc6)
  sl_step
  iapply Hk
  have q0 : first.sl.r c arg2 harg2 L = k0_pay11 L := congrArg k0_pay11 (readAt_whole harg2 L _)
  have q1 : first.sl.r_1 c arg1 harg1 arg2 harg2 x L = k0_pay14 L x := by
    unfold first.sl.r_1; rw [readAt_whole harg2 L, readAt_whole harg1 x]
  have q2 : first.sl.r_2 c arg1 harg1 arg2 harg2 x L = k0_pay15 L x := by
    unfold first.sl.r_2; rw [readAt_whole harg2 L, readAt_whole harg1 x]
  have q4 : first.sl.r_4 c arg1 harg1 arg2 harg2 x L = k0_pay17 L x := by
    unfold first.sl.r_4; rw [readAt_whole harg2 L, readAt_whole harg1 x]
  have q5 : first.sl.r_5 c arg1 harg1 arg2 harg2 x L = termSix L x := by
    unfold first.sl.r_5; rw [q0, q1, q2, q4]; rfl
  have q7 : first.sl.r_7 c arg1 harg1 arg2 harg2 x L = termSeven L x := by
    unfold first.sl.r_7; rw [q0, q1, q2, q4]; rfl
  have q6 : first.sl.r_6 c arg1 harg1 arg2 harg2 arg3 harg3 x L w = sumSix L x w := by
    unfold first.sl.r_6 first.sl.r_3
    rw [q0, q1, q2, q4, readAt_whole harg2 L, readAt_whole harg1 x]; simp only [readAt_part harg3 w]; rfl
  have q8 : first.sl.r_8 c arg1 harg1 arg2 harg2 arg3 harg3 x L w = sumNine L x w := by
    unfold first.sl.r_8
    rw [q0, q5, q6, q7]; simp only [readAt_part harg3 w]; rfl
  have q9 : first.sl.r_9 c arg1 harg1 arg2 harg2 x L = termTen L x := by
    unfold first.sl.r_9
    rw [q0, q5, q7]; rfl
  have q10 : first.sl.r_10 c arg3 harg3 w = weightTen w := congrArg k0_pay27 (readAt_part harg3 w _)
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro
    have e4 : View.readAt (Elt F) arg4.view (Rect.unit (s := S20x1x1) ![0, 0, 0] S20x1x1.size inb_S20x1x1_S20x1x1_0_0_0).toLoadRect (harg4.unread b) = b := readAt_whole harg4 b _
    rw [View.read_writes_cons_put _ _ _ _ _ rfl, View.read_writes_cons_put _ _ _ _ _ rfl]
    show VecWindow.put (VecWindow.put (View.read (Elt F) arg9.view (harg9.unread s)) ![0, 0, 0] S1x1280x1024.size _) ![1, 0, 0] S1x1280x1024.size _ = _
    rw [harg9.read_unread s, q0, q8, q9, q10, e4]
    rfl
  isplitl [H10]
  · iexists _; isplitr; swap; · iexact H10
    ipureintro
    have e4 : View.readAt (Elt F) arg4.view (Rect.unit (s := S20x1x1) ![0, 0, 0] S20x1x1.size inb_S20x1x1_S20x1x1_0_0_0).toLoadRect (harg4.unread b) = b := readAt_whole harg4 b _
    have e5 : View.readAt (Elt F) arg5.view (Rect.unit (s := S2x20x50) ![0, 0, 0] S2x20x50.size inb_S2x20x50_S2x20x50_0_0_0).toLoadRect (harg5.unread W) = W := readAt_whole harg5 W _
    refine (View.read_writes_full _ _ _ _ _).trans ?_
    rw [q0, q8, q9, q10, e4, e5]
    rfl
  iexists _; isplitr; swap; · iexact H11
  ipureintro
  exact (View.read_writes_full _ _ _ _ _).trans (congrArg k0_pay12 (readAt_whole harg2 L _))

end Cert.Proof.Cheb
end
-- ==== Proof.ChebNext.lean ====
module

public import proofs.«01_k».proof.Proof.ChebVals

@[expose] public section

set_option maxRecDepth 16384

noncomputable section

namespace Cert.Proof.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a later point of the recurrence. -/
theorem next (c : Dev nD) (i : grid0.Coords) (hc1 : ¬ isFirst i) (hc2 : isNext i) (hc3 : ¬ k0_cond3 i = 1#1) (hc4 : ¬ k0_cond4 i = 1#1)
    (hc5 : ¬ k0_cond5 i = 1#1) (hc6 : ¬ k0_cond6 i = 1#1)
    (arg1 : Memref sig .tc .vmem S64x1024 .f32) (harg1 : arg1.IsWhole) (arg2 : Memref sig .tc .vmem S1024x1024 .f32) (harg2 : arg2.IsWhole) (arg3 : Memref sig .tc .vmem S10x20x1x1 .f32) (harg3 : arg3.IsWhole)
     (arg4 : Memref sig .tc .vmem S20x1x1 .f32) (harg4 : arg4.IsWhole) (arg5 : Memref sig .tc .vmem S2x20x50 .f32) (harg5 : arg5.IsWhole) (arg6 : Memref sig .tc .vmem S50x1 .f32) (harg6 : arg6.IsWhole)
     (arg7 : Memref sig .tc .vmem S50x50 .f32) (harg7 : arg7.IsWhole) (arg8 : Memref sig .tc .vmem S16384x50 .bf16) (harg8 : arg8.IsWhole) (arg9 : Memref sig .tc .vmem S2x1280x1024 .f32) (harg9 : arg9.IsWhole)
     (arg10 : Memref sig .tc .vmem S50x65536 .f32) (harg10 : arg10.IsWhole) (arg11 : Memref sig .tc .vmem S1024x1024 .bf16) (harg11 : arg11.IsWhole)
    (x : Vec F S64x1024 .f32) (L : Vec F S1024x1024 .f32) (w : Vec F S10x20x1x1 .f32) (b : Vec F S20x1x1 .f32) (W : Vec F S2x20x50 .f32) (b2 : Vec F S50x1 .f32) (e : Vec F S50x50 .f32) (d : Vec F S16384x50 .bf16) (s : Vec F S2x1280x1024 .f32) (a : Vec F S50x65536 .f32) (M : Vec F S1024x1024 .bf16) (E : Set ℕ) (K : PUnit → sProp 𝕄) :
    iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare d
        ∗ owns (c : Thread nD τ) arg9 fullShare s
        ∗ owns (c : Thread nD τ) arg10 fullShare a
        ∗ owns (c : Thread nD τ) arg11 fullShare M
        ∗ (iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare d
        ∗ owns (c : Thread nD τ) arg9 fullShare (bothPut s (nextLower M (lower s) (upper s)) (nextUpper M (lower s) (upper s)))
        ∗ owns (c : Thread nD τ) arg10 fullShare (nextAcc M (lower s) (upper s) a W)
        ∗ owns (c : Thread nD τ) arg11 fullShare M) -∗ K ⟨⟩))
      ⊢ wp frame (wpE (defs₀ (F := F)) Variants.none c none) E
          (cc0__cheb_kernel i arg1 harg1 arg2 harg2 arg3 harg3 arg4 harg4 arg5 harg5 arg6 harg6 arg7 harg7 arg8 harg8 arg9 harg9 arg10 harg10 arg11 harg11) K := by
  simp only [cc0__cheb_kernel_eq_skeleton]; unfold cc0__cheb_kernel_skel
  simp only [k0_part4_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, Hk⟩
  obtain rfl := harg1.eq_unread h1; obtain rfl := harg2.eq_unread h2; obtain rfl := harg3.eq_unread h3; obtain rfl := harg4.eq_unread h4
  obtain rfl := harg5.eq_unread h5; obtain rfl := harg6.eq_unread h6; obtain rfl := harg7.eq_unread h7; obtain rfl := harg8.eq_unread h8
  obtain rfl := harg9.eq_unread h9; obtain rfl := harg10.eq_unread h10; obtain rfl := harg11.eq_unread h11
  sl_exec (disch := first | sl_exact hc1 | sl_exact hc2 | sl_exact hc3 | sl_exact hc4 | sl_exact hc5 | sl_exact hc6)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro
    rw [View.read_writes_cons_put _ _ _ _ _ rfl, View.read_writes_cons_put _ _ _ _ _ rfl]
    show VecWindow.put (VecWindow.put (View.read (Elt F) arg9.view (harg9.unread s)) ![0, 0, 0] S1x1280x1024.size _) ![1, 0, 0] S1x1280x1024.size _ = _
    rw [harg9.read_unread s, readAt_whole harg11 M, readAt_part harg9 s, readAt_part harg9 s]
    rfl
  isplitl [H10]
  · iexists _; isplitr; swap; · iexact H10
    ipureintro
    refine (View.read_writes_full _ _ _ _ _).trans ?_
    unfold next.sl.r
    rw [readAt_whole harg11 M, readAt_part harg9 s, readAt_part harg9 s, readAt_whole harg10 a, readAt_whole harg5 W]
    rfl
  iexists _; isplitr; swap; · iexact H11
  ipureintro; exact h11

end Cert.Proof.Cheb
end
-- ==== Proof.ChebLast.lean ====
module

public import proofs.«01_k».proof.Proof.ChebVals

@[expose] public section

set_option maxRecDepth 16384

noncomputable section

namespace Cert.Proof.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the point that writes the first quarter of the result. -/
theorem firstQuarter (c : Dev nD) (i : grid0.Coords) (hc1 : ¬ isFirst i) (hc2 : ¬ isNext i) (hc3 : k0_cond3 i = 1#1) (hc4 : ¬ k0_cond4 i = 1#1) (hc5 : ¬ k0_cond5 i = 1#1) (hc6 : ¬ k0_cond6 i = 1#1)
    (arg1 : Memref sig .tc .vmem S64x1024 .f32) (harg1 : arg1.IsWhole) (arg2 : Memref sig .tc .vmem S1024x1024 .f32) (harg2 : arg2.IsWhole) (arg3 : Memref sig .tc .vmem S10x20x1x1 .f32) (harg3 : arg3.IsWhole)
     (arg4 : Memref sig .tc .vmem S20x1x1 .f32) (harg4 : arg4.IsWhole) (arg5 : Memref sig .tc .vmem S2x20x50 .f32) (harg5 : arg5.IsWhole) (arg6 : Memref sig .tc .vmem S50x1 .f32) (harg6 : arg6.IsWhole)
     (arg7 : Memref sig .tc .vmem S50x50 .f32) (harg7 : arg7.IsWhole) (arg8 : Memref sig .tc .vmem S16384x50 .bf16) (harg8 : arg8.IsWhole) (arg9 : Memref sig .tc .vmem S2x1280x1024 .f32) (harg9 : arg9.IsWhole)
     (arg10 : Memref sig .tc .vmem S50x65536 .f32) (harg10 : arg10.IsWhole) (arg11 : Memref sig .tc .vmem S1024x1024 .bf16) (harg11 : arg11.IsWhole)
    (x : Vec F S64x1024 .f32) (L : Vec F S1024x1024 .f32) (w : Vec F S10x20x1x1 .f32) (b : Vec F S20x1x1 .f32) (W : Vec F S2x20x50 .f32) (b2 : Vec F S50x1 .f32) (e : Vec F S50x50 .f32) (d : Vec F S16384x50 .bf16) (s : Vec F S2x1280x1024 .f32) (a : Vec F S50x65536 .f32) (M : Vec F S1024x1024 .bf16) (E : Set ℕ) (K : PUnit → sProp 𝕄) :
    iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare d
        ∗ owns (c : Thread nD τ) arg9 fullShare s
        ∗ owns (c : Thread nD τ) arg10 fullShare a
        ∗ owns (c : Thread nD τ) arg11 fullShare M
        ∗ (iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare (quarter (VecWindow.window a ![0, 0] S50x16384.size inb_S50x65536_S50x16384_0_0) b2 e)
        ∗ owns (c : Thread nD τ) arg9 fullShare s
        ∗ owns (c : Thread nD τ) arg10 fullShare a
        ∗ owns (c : Thread nD τ) arg11 fullShare M) -∗ K ⟨⟩))
      ⊢ wp frame (wpE (defs₀ (F := F)) Variants.none c none) E
          (cc0__cheb_kernel i arg1 harg1 arg2 harg2 arg3 harg3 arg4 harg4 arg5 harg5 arg6 harg6 arg7 harg7 arg8 harg8 arg9 harg9 arg10 harg10 arg11 harg11) K := by
  simp only [cc0__cheb_kernel_eq_skeleton]; unfold cc0__cheb_kernel_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, Hk⟩
  obtain rfl := harg1.eq_unread h1; obtain rfl := harg2.eq_unread h2; obtain rfl := harg3.eq_unread h3; obtain rfl := harg4.eq_unread h4
  obtain rfl := harg5.eq_unread h5; obtain rfl := harg6.eq_unread h6; obtain rfl := harg7.eq_unread h7; obtain rfl := harg8.eq_unread h8
  obtain rfl := harg9.eq_unread h9; obtain rfl := harg10.eq_unread h10; obtain rfl := harg11.eq_unread h11
  sl_exec (disch := first | sl_exact hc1 | sl_exact hc2 | sl_exact hc3 | sl_exact hc4 | sl_exact hc5 | sl_exact hc6)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro
    exact (View.read_writes_full _ _ _ _ _).trans (by rw [readAt_part harg10 a, readAt_whole harg6 b2, readAt_whole harg7 e]; rfl)
  isplitl [H9]
  · iexists _; isplitr; swap; · iexact H9
    ipureintro; exact h9
  isplitl [H10]
  · iexists _; isplitr; swap; · iexact H10
    ipureintro; exact h10
  iexists _; isplitr; swap; · iexact H11
  ipureintro; exact h11

set_option maxHeartbeats 8000000 in
/-- The body at the point that writes the second quarter of the result. -/
theorem secondQuarter (c : Dev nD) (i : grid0.Coords) (hc1 : ¬ isFirst i) (hc2 : ¬ isNext i) (hc3 : ¬ k0_cond3 i = 1#1) (hc4 : k0_cond4 i = 1#1) (hc5 : ¬ k0_cond5 i = 1#1) (hc6 : ¬ k0_cond6 i = 1#1)
    (arg1 : Memref sig .tc .vmem S64x1024 .f32) (harg1 : arg1.IsWhole) (arg2 : Memref sig .tc .vmem S1024x1024 .f32) (harg2 : arg2.IsWhole) (arg3 : Memref sig .tc .vmem S10x20x1x1 .f32) (harg3 : arg3.IsWhole)
     (arg4 : Memref sig .tc .vmem S20x1x1 .f32) (harg4 : arg4.IsWhole) (arg5 : Memref sig .tc .vmem S2x20x50 .f32) (harg5 : arg5.IsWhole) (arg6 : Memref sig .tc .vmem S50x1 .f32) (harg6 : arg6.IsWhole)
     (arg7 : Memref sig .tc .vmem S50x50 .f32) (harg7 : arg7.IsWhole) (arg8 : Memref sig .tc .vmem S16384x50 .bf16) (harg8 : arg8.IsWhole) (arg9 : Memref sig .tc .vmem S2x1280x1024 .f32) (harg9 : arg9.IsWhole)
     (arg10 : Memref sig .tc .vmem S50x65536 .f32) (harg10 : arg10.IsWhole) (arg11 : Memref sig .tc .vmem S1024x1024 .bf16) (harg11 : arg11.IsWhole)
    (x : Vec F S64x1024 .f32) (L : Vec F S1024x1024 .f32) (w : Vec F S10x20x1x1 .f32) (b : Vec F S20x1x1 .f32) (W : Vec F S2x20x50 .f32) (b2 : Vec F S50x1 .f32) (e : Vec F S50x50 .f32) (d : Vec F S16384x50 .bf16) (s : Vec F S2x1280x1024 .f32) (a : Vec F S50x65536 .f32) (M : Vec F S1024x1024 .bf16) (E : Set ℕ) (K : PUnit → sProp 𝕄) :
    iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare d
        ∗ owns (c : Thread nD τ) arg9 fullShare s
        ∗ owns (c : Thread nD τ) arg10 fullShare a
        ∗ owns (c : Thread nD τ) arg11 fullShare M
        ∗ (iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare (quarter (VecWindow.window a ![0, 16384] S50x16384.size inb_S50x65536_S50x16384_0_16384) b2 e)
        ∗ owns (c : Thread nD τ) arg9 fullShare s
        ∗ owns (c : Thread nD τ) arg10 fullShare a
        ∗ owns (c : Thread nD τ) arg11 fullShare M) -∗ K ⟨⟩))
      ⊢ wp frame (wpE (defs₀ (F := F)) Variants.none c none) E
          (cc0__cheb_kernel i arg1 harg1 arg2 harg2 arg3 harg3 arg4 harg4 arg5 harg5 arg6 harg6 arg7 harg7 arg8 harg8 arg9 harg9 arg10 harg10 arg11 harg11) K := by
  simp only [cc0__cheb_kernel_eq_skeleton]; unfold cc0__cheb_kernel_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, Hk⟩
  obtain rfl := harg1.eq_unread h1; obtain rfl := harg2.eq_unread h2; obtain rfl := harg3.eq_unread h3; obtain rfl := harg4.eq_unread h4
  obtain rfl := harg5.eq_unread h5; obtain rfl := harg6.eq_unread h6; obtain rfl := harg7.eq_unread h7; obtain rfl := harg8.eq_unread h8
  obtain rfl := harg9.eq_unread h9; obtain rfl := harg10.eq_unread h10; obtain rfl := harg11.eq_unread h11
  sl_exec (disch := first | sl_exact hc1 | sl_exact hc2 | sl_exact hc3 | sl_exact hc4 | sl_exact hc5 | sl_exact hc6)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro
    exact (View.read_writes_full _ _ _ _ _).trans (by rw [readAt_part harg10 a, readAt_whole harg6 b2, readAt_whole harg7 e]; rfl)
  isplitl [H9]
  · iexists _; isplitr; swap; · iexact H9
    ipureintro; exact h9
  isplitl [H10]
  · iexists _; isplitr; swap; · iexact H10
    ipureintro; exact h10
  iexists _; isplitr; swap; · iexact H11
  ipureintro; exact h11

set_option maxHeartbeats 8000000 in
/-- The body at the point that writes the third quarter of the result. -/
theorem thirdQuarter (c : Dev nD) (i : grid0.Coords) (hc1 : ¬ isFirst i) (hc2 : ¬ isNext i) (hc3 : ¬ k0_cond3 i = 1#1) (hc4 : ¬ k0_cond4 i = 1#1) (hc5 : k0_cond5 i = 1#1) (hc6 : ¬ k0_cond6 i = 1#1)
    (arg1 : Memref sig .tc .vmem S64x1024 .f32) (harg1 : arg1.IsWhole) (arg2 : Memref sig .tc .vmem S1024x1024 .f32) (harg2 : arg2.IsWhole) (arg3 : Memref sig .tc .vmem S10x20x1x1 .f32) (harg3 : arg3.IsWhole)
     (arg4 : Memref sig .tc .vmem S20x1x1 .f32) (harg4 : arg4.IsWhole) (arg5 : Memref sig .tc .vmem S2x20x50 .f32) (harg5 : arg5.IsWhole) (arg6 : Memref sig .tc .vmem S50x1 .f32) (harg6 : arg6.IsWhole)
     (arg7 : Memref sig .tc .vmem S50x50 .f32) (harg7 : arg7.IsWhole) (arg8 : Memref sig .tc .vmem S16384x50 .bf16) (harg8 : arg8.IsWhole) (arg9 : Memref sig .tc .vmem S2x1280x1024 .f32) (harg9 : arg9.IsWhole)
     (arg10 : Memref sig .tc .vmem S50x65536 .f32) (harg10 : arg10.IsWhole) (arg11 : Memref sig .tc .vmem S1024x1024 .bf16) (harg11 : arg11.IsWhole)
    (x : Vec F S64x1024 .f32) (L : Vec F S1024x1024 .f32) (w : Vec F S10x20x1x1 .f32) (b : Vec F S20x1x1 .f32) (W : Vec F S2x20x50 .f32) (b2 : Vec F S50x1 .f32) (e : Vec F S50x50 .f32) (d : Vec F S16384x50 .bf16) (s : Vec F S2x1280x1024 .f32) (a : Vec F S50x65536 .f32) (M : Vec F S1024x1024 .bf16) (E : Set ℕ) (K : PUnit → sProp 𝕄) :
    iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare d
        ∗ owns (c : Thread nD τ) arg9 fullShare s
        ∗ owns (c : Thread nD τ) arg10 fullShare a
        ∗ owns (c : Thread nD τ) arg11 fullShare M
        ∗ (iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare (quarter (VecWindow.window a ![0, 32768] S50x16384.size inb_S50x65536_S50x16384_0_32768) b2 e)
        ∗ owns (c : Thread nD τ) arg9 fullShare s
        ∗ owns (c : Thread nD τ) arg10 fullShare a
        ∗ owns (c : Thread nD τ) arg11 fullShare M) -∗ K ⟨⟩))
      ⊢ wp frame (wpE (defs₀ (F := F)) Variants.none c none) E
          (cc0__cheb_kernel i arg1 harg1 arg2 harg2 arg3 harg3 arg4 harg4 arg5 harg5 arg6 harg6 arg7 harg7 arg8 harg8 arg9 harg9 arg10 harg10 arg11 harg11) K := by
  simp only [cc0__cheb_kernel_eq_skeleton]; unfold cc0__cheb_kernel_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, Hk⟩
  obtain rfl := harg1.eq_unread h1; obtain rfl := harg2.eq_unread h2; obtain rfl := harg3.eq_unread h3; obtain rfl := harg4.eq_unread h4
  obtain rfl := harg5.eq_unread h5; obtain rfl := harg6.eq_unread h6; obtain rfl := harg7.eq_unread h7; obtain rfl := harg8.eq_unread h8
  obtain rfl := harg9.eq_unread h9; obtain rfl := harg10.eq_unread h10; obtain rfl := harg11.eq_unread h11
  sl_exec (disch := first | sl_exact hc1 | sl_exact hc2 | sl_exact hc3 | sl_exact hc4 | sl_exact hc5 | sl_exact hc6)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro
    exact (View.read_writes_full _ _ _ _ _).trans (by rw [readAt_part harg10 a, readAt_whole harg6 b2, readAt_whole harg7 e]; rfl)
  isplitl [H9]
  · iexists _; isplitr; swap; · iexact H9
    ipureintro; exact h9
  isplitl [H10]
  · iexists _; isplitr; swap; · iexact H10
    ipureintro; exact h10
  iexists _; isplitr; swap; · iexact H11
  ipureintro; exact h11

set_option maxHeartbeats 8000000 in
/-- The body at the point that writes the last quarter of the result. -/
theorem lastQuarter (c : Dev nD) (i : grid0.Coords) (hc1 : ¬ isFirst i) (hc2 : ¬ isNext i) (hc3 : ¬ k0_cond3 i = 1#1) (hc4 : ¬ k0_cond4 i = 1#1) (hc5 : ¬ k0_cond5 i = 1#1) (hc6 : k0_cond6 i = 1#1)
    (arg1 : Memref sig .tc .vmem S64x1024 .f32) (harg1 : arg1.IsWhole) (arg2 : Memref sig .tc .vmem S1024x1024 .f32) (harg2 : arg2.IsWhole) (arg3 : Memref sig .tc .vmem S10x20x1x1 .f32) (harg3 : arg3.IsWhole)
     (arg4 : Memref sig .tc .vmem S20x1x1 .f32) (harg4 : arg4.IsWhole) (arg5 : Memref sig .tc .vmem S2x20x50 .f32) (harg5 : arg5.IsWhole) (arg6 : Memref sig .tc .vmem S50x1 .f32) (harg6 : arg6.IsWhole)
     (arg7 : Memref sig .tc .vmem S50x50 .f32) (harg7 : arg7.IsWhole) (arg8 : Memref sig .tc .vmem S16384x50 .bf16) (harg8 : arg8.IsWhole) (arg9 : Memref sig .tc .vmem S2x1280x1024 .f32) (harg9 : arg9.IsWhole)
     (arg10 : Memref sig .tc .vmem S50x65536 .f32) (harg10 : arg10.IsWhole) (arg11 : Memref sig .tc .vmem S1024x1024 .bf16) (harg11 : arg11.IsWhole)
    (x : Vec F S64x1024 .f32) (L : Vec F S1024x1024 .f32) (w : Vec F S10x20x1x1 .f32) (b : Vec F S20x1x1 .f32) (W : Vec F S2x20x50 .f32) (b2 : Vec F S50x1 .f32) (e : Vec F S50x50 .f32) (d : Vec F S16384x50 .bf16) (s : Vec F S2x1280x1024 .f32) (a : Vec F S50x65536 .f32) (M : Vec F S1024x1024 .bf16) (E : Set ℕ) (K : PUnit → sProp 𝕄) :
    iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare d
        ∗ owns (c : Thread nD τ) arg9 fullShare s
        ∗ owns (c : Thread nD τ) arg10 fullShare a
        ∗ owns (c : Thread nD τ) arg11 fullShare M
        ∗ (iprop(owns (c : Thread nD τ) arg1 fullShare x
        ∗ owns (c : Thread nD τ) arg2 fullShare L
        ∗ owns (c : Thread nD τ) arg3 fullShare w
        ∗ owns (c : Thread nD τ) arg4 fullShare b
        ∗ owns (c : Thread nD τ) arg5 fullShare W
        ∗ owns (c : Thread nD τ) arg6 fullShare b2
        ∗ owns (c : Thread nD τ) arg7 fullShare e
        ∗ owns (c : Thread nD τ) arg8 fullShare (quarter (VecWindow.window a ![0, 49152] S50x16384.size inb_S50x65536_S50x16384_0_49152) b2 e)
        ∗ owns (c : Thread nD τ) arg9 fullShare s
        ∗ owns (c : Thread nD τ) arg10 fullShare a
        ∗ owns (c : Thread nD τ) arg11 fullShare M) -∗ K ⟨⟩))
      ⊢ wp frame (wpE (defs₀ (F := F)) Variants.none c none) E
          (cc0__cheb_kernel i arg1 harg1 arg2 harg2 arg3 harg3 arg4 harg4 arg5 harg5 arg6 harg6 arg7 harg7 arg8 harg8 arg9 harg9 arg10 harg10 arg11 harg11) K := by
  simp only [cc0__cheb_kernel_eq_skeleton]; unfold cc0__cheb_kernel_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, Hk⟩
  obtain rfl := harg1.eq_unread h1; obtain rfl := harg2.eq_unread h2; obtain rfl := harg3.eq_unread h3; obtain rfl := harg4.eq_unread h4
  obtain rfl := harg5.eq_unread h5; obtain rfl := harg6.eq_unread h6; obtain rfl := harg7.eq_unread h7; obtain rfl := harg8.eq_unread h8
  obtain rfl := harg9.eq_unread h9; obtain rfl := harg10.eq_unread h10; obtain rfl := harg11.eq_unread h11
  sl_exec (disch := first | sl_exact hc1 | sl_exact hc2 | sl_exact hc3 | sl_exact hc4 | sl_exact hc5 | sl_exact hc6)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro
    exact (View.read_writes_full _ _ _ _ _).trans (by rw [readAt_part harg10 a, readAt_whole harg6 b2, readAt_whole harg7 e]; rfl)
  isplitl [H9]
  · iexists _; isplitr; swap; · iexact H9
    ipureintro; exact h9
  isplitl [H10]
  · iexists _; isplitr; swap; · iexact H10
    ipureintro; exact h10
  iexists _; isplitr; swap; · iexact H11
  ipureintro; exact h11

end Cert.Proof.Cheb
end
-- ==== Proof.ChebRegion.lean ====
module

public import proofs.«01_k».proof.Proof.ChebData
public import proofs.«01_k».proof.Proof.ChebFirst
public import proofs.«01_k».proof.Proof.ChebNext
public import proofs.«01_k».proof.Proof.ChebLast

@[expose] public section

set_option maxRecDepth 16384

noncomputable section

namespace Cert.Proof.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The body takes the output's buffer and the scratch buffers from the first contents to the second ones, and leaves the inputs alone. -/
def Turns (c : Dev nD) (t : Fin cfg0.N) (d : Vec F S16384x50 .bf16) (s : Vec F S2x1280x1024 .f32) (a : Vec F S50x65536 .f32) (M : Vec F S1024x1024 .bf16)
    (d' : Vec F S16384x50 .bf16) (s' : Vec F S2x1280x1024 .f32) (a' : Vec F S50x65536 .f32) (M' : Vec F S1024x1024 .bf16) : Prop :=
  ∀ K : PUnit → sProp 𝕄,
    iprop(owns (c : Thread nD τ) (st0_0 t) fullShare (blk W c 0 t) ∗ owns (c : Thread nD τ) (st0_1 t) fullShare (blk W c 1 t)
       ∗ owns (c : Thread nD τ) (st0_2 t) fullShare (blk W c 2 t) ∗ owns (c : Thread nD τ) (st0_3 t) fullShare (blk W c 3 t)
       ∗ owns (c : Thread nD τ) (st0_4 t) fullShare (blk W c 4 t) ∗ owns (c : Thread nD τ) (st0_5 t) fullShare (blk W c 5 t)
       ∗ owns (c : Thread nD τ) (st0_6 t) fullShare (blk W c 6 t) ∗ owns (c : Thread nD τ) (st0_7 t) fullShare d
      ∗ owns (c : Thread nD τ) scrS fullShare s ∗ owns (c : Thread nD τ) scrA fullShare a ∗ owns (c : Thread nD τ) scrM fullShare M
      ∗ (iprop(owns (c : Thread nD τ) (st0_0 t) fullShare (blk W c 0 t) ∗ owns (c : Thread nD τ) (st0_1 t) fullShare (blk W c 1 t)
       ∗ owns (c : Thread nD τ) (st0_2 t) fullShare (blk W c 2 t) ∗ owns (c : Thread nD τ) (st0_3 t) fullShare (blk W c 3 t)
       ∗ owns (c : Thread nD τ) (st0_4 t) fullShare (blk W c 4 t) ∗ owns (c : Thread nD τ) (st0_5 t) fullShare (blk W c 5 t)
       ∗ owns (c : Thread nD τ) (st0_6 t) fullShare (blk W c 6 t) ∗ owns (c : Thread nD τ) (st0_7 t) fullShare d'
      ∗ owns (c : Thread nD τ) scrS fullShare s' ∗ owns (c : Thread nD τ) scrA fullShare a' ∗ owns (c : Thread nD τ) scrM fullShare M') -∗ K ⟨⟩))
    ⊢ wp frame (wpE (defs₀ (F := F)) Variants.none c none) Set.univ (bodyAt0 t) K

set_option maxHeartbeats 4000000 in
/-- At every point the body turns what the buffers hold into what the proof data say of the next point. -/
theorem turns (c : Dev nD) (t : Fin cfg0.N) (d : Vec F S16384x50 .bf16) (s : Vec F S2x1280x1024 .f32) (a : Vec F S50x65536 .f32) (M : Vec F S1024x1024 .bf16)
    (h : Good W c t.val s a M) :
    ∃ d' s' a' M', Good W c (t.val + 1) s' a' M' ∧ (d' = if t.val < 5 then d else out W c t) ∧ Turns W c t d s a M d' s' a' M' := by
  have ht : t.val < 9 := Nat.lt_of_lt_of_eq t.isLt N_0
  obtain ⟨b1, b2, b3, b4, b5, b6⟩ := branches t
  have n1 := mt b1.mp; have n2 := mt b2.mp; have n3 := mt b3.mp; have n4 := mt b4.mp; have n5 := mt b5.mp; have n6 := mt b6.mp
  have hcase : t.val = 0 ∨ (1 ≤ t.val ∧ t.val ≤ 4) ∨ t.val = 5 ∨ t.val = 6 ∨ t.val = 7 ∨ t.val = 8 := by omega
  rcases hcase with e | e | e | e | e | e
  · have ep : t = pt 0 := by rw [← e, pt_val]
    have g := good_first W c s (t.val + 1) (by omega)
    rw [← ep] at g
    exact ⟨d, _, _, _, g, by rw [if_pos (by omega)], fun K => first (F := F) c (grid0.coords t) (b1.mpr e) (n2 (by omega)) (n3 (by omega)) (n4 (by omega)) (n5 (by omega)) (n6 (by omega))
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scrS (Memref.isWhole_whole _) scrA (Memref.isWhole_whole _) scrM (Memref.isWhole_whole _)
      (blk W c 0 t) (blk W c 1 t) (blk W c 2 t) (blk W c 3 t) (blk W c 4 t) (blk W c 5 t) (blk W c 6 t) d s a M Set.univ K⟩
  · have g := good_next W c t.val e.1 e.2 s a M h
    rw [pt_val] at g
    exact ⟨d, _, _, _, g, by rw [if_pos (by omega)], fun K => next (F := F) c (grid0.coords t) (n1 (by omega)) (b2.mpr e) (n3 (by omega)) (n4 (by omega)) (n5 (by omega)) (n6 (by omega))
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scrS (Memref.isWhole_whole _) scrA (Memref.isWhole_whole _) scrM (Memref.isWhole_whole _)
      (blk W c 0 t) (blk W c 1 t) (blk W c 2 t) (blk W c 3 t) (blk W c 4 t) (blk W c 5 t) (blk W c 6 t) d s a M Set.univ K⟩
  · obtain ⟨g, rfl⟩ := good_stay W c t.val (by omega) s a M h
    refine ⟨_, _, _, _, g, ?_, fun K => firstQuarter (F := F) c (grid0.coords t) (n1 (by omega)) (n2 (by omega)) (b3.mpr e) (n4 (by omega)) (n5 (by omega)) (n6 (by omega))
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scrS (Memref.isWhole_whole _) scrA (Memref.isWhole_whole _) scrM (Memref.isWhole_whole _)
      (blk W c 0 t) (blk W c 1 t) (blk W c 2 t) (blk W c 3 t) (blk W c 4 t) (blk W c 5 t) (blk W c 6 t) d s (sums W c 4) M Set.univ K⟩
    rw [if_neg (by omega)]; exact out_eq W c t _ _ (by omega)
  · obtain ⟨g, rfl⟩ := good_stay W c t.val (by omega) s a M h
    refine ⟨_, _, _, _, g, ?_, fun K => secondQuarter (F := F) c (grid0.coords t) (n1 (by omega)) (n2 (by omega)) (n3 (by omega)) (b4.mpr e) (n5 (by omega)) (n6 (by omega))
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scrS (Memref.isWhole_whole _) scrA (Memref.isWhole_whole _) scrM (Memref.isWhole_whole _)
      (blk W c 0 t) (blk W c 1 t) (blk W c 2 t) (blk W c 3 t) (blk W c 4 t) (blk W c 5 t) (blk W c 6 t) d s (sums W c 4) M Set.univ K⟩
    rw [if_neg (by omega)]; exact out_eq W c t _ _ (by omega)
  · obtain ⟨g, rfl⟩ := good_stay W c t.val (by omega) s a M h
    refine ⟨_, _, _, _, g, ?_, fun K => thirdQuarter (F := F) c (grid0.coords t) (n1 (by omega)) (n2 (by omega)) (n3 (by omega)) (n4 (by omega)) (b5.mpr e) (n6 (by omega))
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scrS (Memref.isWhole_whole _) scrA (Memref.isWhole_whole _) scrM (Memref.isWhole_whole _)
      (blk W c 0 t) (blk W c 1 t) (blk W c 2 t) (blk W c 3 t) (blk W c 4 t) (blk W c 5 t) (blk W c 6 t) d s (sums W c 4) M Set.univ K⟩
    rw [if_neg (by omega)]; exact out_eq W c t _ _ (by omega)
  · obtain ⟨g, rfl⟩ := good_stay W c t.val (by omega) s a M h
    refine ⟨_, _, _, _, g, ?_, fun K => lastQuarter (F := F) c (grid0.coords t) (n1 (by omega)) (n2 (by omega)) (n3 (by omega)) (n4 (by omega)) (n5 (by omega)) (b6.mpr e)
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) scrS (Memref.isWhole_whole _) scrA (Memref.isWhole_whole _) scrM (Memref.isWhole_whole _)
      (blk W c 0 t) (blk W c 1 t) (blk W c 2 t) (blk W c 3 t) (blk W c 4 t) (blk W c 5 t) (blk W c 6 t) d s (sums W c 4) M Set.univ K⟩
    rw [if_neg (by omega)]; exact out_eq W c t _ _ (by omega)

set_option maxHeartbeats 4000000 in
/-- The body does at every point what the proof data say. -/
theorem obligation (c : Dev nD) : BodyObligation (dat W c) (defs₀ (F := F)) Variants.none () Set.univ := fun t => by
  rw [bigSep_W0, bigSep_W0]
  obtain ⟨b0, b1, b2, b3, b4, b5, b6⟩ := before_in W c t
  simp only [b0, b1, b2, b3, b4, b5, b6]
  rw [show (dat W c).owesAt () t.succ = (dat W c).owesAt () t.castSucc from rfl,
    show (dat W c).Φ t.castSucc = inv W c t.val from rfl, show (dat W c).Φ t.succ = inv W c (t.val + 1) from rfl]
  unfold inv
  show _ ⊢ wp frame _ _ (bodyAt0 t) _
  iintro ⟨⟨⟨%s, %a, %M, %hg, HS, HA, HM⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨d', s', a', M', hg', hd', hrun⟩ := turns W c t ((dat W c).before 7 t d7) s a M hg
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [HA]; · iexact HA
  isplitl [HM]; · iexact HM
  iintro ⟨H0, H1, H2, H3, H4, H5, H6, H7, HS, HA, HM⟩
  isplitl [HS HA HM Hr]
  · isplitr [Hr]
    · iexists s'; iexists a'; iexists M'
      isplitr
      · ipureintro; exact hg'
      isplitl [HS]; · iexact HS
      isplitl [HA]; · iexact HA
      iexact HM
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h : t.val < 5
  · have e : idle0 7 (grid0.coords t) = true := (idle_early t h).1
    have e' : (win0 7).flush t = false := (idle_early t h).2
    simp only [e, e']
    rw [hd', if_pos h]
    iexists d7; iexact H7
  · have e : idle0 7 (grid0.coords t) = false := busy_late t (by omega)
    simp only [e]
    rw [hd', if_neg h]
    iexact H7

end Cert.Proof.Cheb
end
-- ==== Proof.FcData.lean ====
module

public import proofs.«01_k».proof.Proof.FcBody
public import Idealize.ShloMosaic.Lib.Pipeline.RegionArraysS

@[expose] public section

set_option maxRecDepth 16384

noncomputable section

namespace Cert.Proof.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches, by the grid point -/

/-- The first branch is taken at point 0. -/
theorem isFirst_iff (t : Fin cfg1.N) : isFirst (grid1.coords t) ↔ t.val = 0 :=
  (fun t => by
    have ht : t.val < 16 := Nat.lt_of_lt_of_eq t.isLt N_1
    have e0 : (grid1.coords t 0).val = t.val / 1 % 16 := Pipeline.Grid.coords_val t 0 (by decide) rfl
    have : t.val = 0 ↔ t.val % 16 = 0 := by omega
    rw [this]
    simp only [isFirst, e0]
    word_cmp : ∀ t : Fin grid1.N, isFirst (grid1.coords t) ↔ t.val = 0) t

/-- The second one at every other point. -/
theorem isLater_iff (t : Fin cfg1.N) : isLater (grid1.coords t) ↔ ¬ isFirst (grid1.coords t) := by
  rw [isFirst_iff, ← ne_eq, ← Nat.pos_iff_ne_zero]
  exact (by decide +kernel : ∀ t : Fin grid1.N, isLater (grid1.coords t) ↔ 0 < t.val) t

/-- The third one at point 15. -/
theorem isLast_iff (t : Fin cfg1.N) : isLast (grid1.coords t) ↔ t.val = 15 :=
  (fun t => by
    have ht : t.val < 16 := Nat.lt_of_lt_of_eq t.isLt N_1
    have e0 : (grid1.coords t 0).val = t.val / 1 % 16 := Pipeline.Grid.coords_val t 0 (by decide) rfl
    have : t.val = 15 ↔ t.val % 16 = 15 := by omega
    rw [this]
    simp only [isLast, k1_cond3, e0]
    word_cmp : ∀ t : Fin grid1.N, isLast (grid1.coords t) ↔ t.val = 15) t

/-! ## What the buffers hold, point by point -/

variable (W : Dev nD → Valuation τ sig (Elt F))

/-- The block of window `w` at a point, read off its array at the region's entry. -/
def blk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The accumulator before point `n`, from what it holds at the region's entry. -/
def acc (c : Dev nD) (xs : Vec F S64x300 .f32) : (n : ℕ) → n ≤ cfg1.N → Vec F S64x300 .f32
  | 0, _ => xs
  | n + 1, h => step (grid1.coords ⟨n, h⟩) (blk W c 0 ⟨n, h⟩) (blk W c 1 ⟨n, h⟩) (acc c xs n (Nat.le_of_succ_le h))

/-- After the first point the accumulator no longer depends on what it held at the entry. -/
theorem acc_indep (c : Dev nD) (xs xs' : Vec F S64x300 .f32) : ∀ (n : ℕ) (h : n + 1 ≤ cfg1.N), acc W c xs (n + 1) h = acc W c xs' (n + 1) h
  | 0, h => by
    unfold acc step
    rw [if_pos ((isFirst_iff ⟨0, h⟩).mpr rfl), if_pos ((isFirst_iff ⟨0, h⟩).mpr rfl)]
  | n + 1, h => by
    rw [acc, acc.eq_2 W c xs' (n + 1) h, acc_indep c xs xs' n]

/-- The accumulator after a point. What it starts from does not matter; here it is some product of blocks. -/
def accAfter (c : Dev nD) (t : Fin cfg1.N) : Vec F S64x300 .f32 :=
  acc W c (k1_pay1 (blk W c 0 t) (blk W c 1 t)) (t.val + 1) t.isLt

/-- The accumulator as a memref. -/
abbrev scr : Memref sig .tc .vmem S64x300 .f32 := Memref.whole cc1_scratch0

/-- Between points: the accumulator at what the points before left, every other scoped buffer at anything. -/
def inv (c : Dev nD) (n : ℕ) (h : n ≤ cfg1.N) : sProp 𝕄 :=
  iprop((∃ xs, owns (c : Thread nD τ) scr fullShare (acc W c xs n h)) ∗ Pipeline.scopedRestBut spec1 c [cc1_scratch0])

/-- The region's proof data: its arrays at the entry; after a point every input's buffer at its block and the output's at the logits
of what has been accumulated (written there, and written back, at the last point only); nothing owed. -/
def dat (c : Dev nD) : Dat τ (Elt F) Unit ℕ (UR sig nD τ) ℕ cfg1 c where
  A w := W c (Pipeline.arrRef spec1 w)
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => k1_pay4 (accAfter W c t) (blk W c 2 t) (blk W c 3 t) (blk W c 4 t)
  Φ t := inv W c t.val (Nat.le_of_lt_succ t.isLt)
  q _ := fullShare
  owed _ := 0

/-- The region starts from the scoped buffers at anything, -/
theorem inv_start (c : Dev nD) : (Pipeline.scopedRest spec1 c : sProp 𝕄) ⊢ (dat W c).Φ 0 := by
  rw [Pipeline.scopedRest_split_of_list spec1 c [cc1_scratch0] (by decide) (by decide)]
  show iprop((∃ f : Buf (Elt F) ((c : Thread nD τ).loc cc1_scratch0), ((c : Thread nD τ).loc cc1_scratch0) ↦{fullShare} f) ∗ _) ⊢ inv W c 0 _
  unfold inv
  rw [show iprop(∃ f : Buf (Elt F) ((c : Thread nD τ).loc cc1_scratch0), ((c : Thread nD τ).loc cc1_scratch0) ↦{fullShare} f)
    = (iprop(∃ xs, owns (c : Thread nD τ) scr fullShare (acc W c xs 0 (Nat.zero_le _))) : sProp 𝕄) from by
      simp only [acc, scr, owns_whole]; rfl]

/-- and gives them back. -/
theorem inv_end (c : Dev nD) (t : Fin (cfg1.N + 1)) : (dat W c).Φ t ⊢ (Pipeline.scopedRest spec1 c : sProp 𝕄) := by
  rw [Pipeline.scopedRest_split_of_list spec1 c [cc1_scratch0] (by decide) (by decide)]
  show inv W c t.val (Nat.le_of_lt_succ t.isLt) ⊢ iprop((∃ f : Buf (Elt F) ((c : Thread nD τ).loc cc1_scratch0), ((c : Thread nD τ).loc cc1_scratch0) ↦{fullShare} f) ∗ _)
  unfold inv
  rw [show iprop(∃ f : Buf (Elt F) ((c : Thread nD τ).loc cc1_scratch0), ((c : Thread nD τ).loc cc1_scratch0) ↦{fullShare} f)
    = (iprop(∃ xs, owns (c : Thread nD τ) scr fullShare xs) : sProp 𝕄) from by simp only [scr, owns_whole]; rfl]
  iintro ⟨⟨%xs, H⟩, Hr⟩
  isplitl [H]; · iexists _; iexact H
  iexact Hr

/-- An input's buffer holds its block when the body runs. -/
theorem before_in (c : Dev nD) (t : Fin cfg1.N) : (∀ d, (dat W c).before 0 t d = blk W c 0 t) ∧ (∀ d, (dat W c).before 1 t d = blk W c 1 t)
    ∧ (∀ d, (dat W c).before 2 t d = blk W c 2 t) ∧ (∀ d, (dat W c).before 3 t d = blk W c 3 t) ∧ (∀ d, (dat W c).before 4 t d = blk W c 4 t) := by
  refine ⟨fun d => ?_, fun d => ?_, fun d => ?_, fun d => ?_, fun d => ?_⟩ <;>
    exact ((dat W c).before_in_eq_fetched _ rfl (fun _ => rfl) (fun _ _ _ => rfl) (fun _ => rfl) t d).trans rfl

/-- The last point writes the output. -/
theorem idle_last (t : Fin cfg1.N) (h : t.val = 15) : cfg1.idle 5 (cfg1.grid.coords t) = false := by
  have := (isLast_iff t).mpr h
  show (!decide (k1_cond3 (grid1.coords t) = 1#1)) = false
  simp only [isLast] at this
  rw [this]; rfl

/-- The others leave it alone, and nothing of it is written back. -/
theorem idle_other (t : Fin cfg1.N) (h : ¬ t.val = 15) : cfg1.idle 5 (cfg1.grid.coords t) = true ∧ (cfg1.win 5).flush t = false := by
  constructor
  · have := mt (isLast_iff t).mp h
    show (!decide (k1_cond3 (grid1.coords t) = 1#1)) = true
    rw [decide_eq_false this]; rfl
  · have ht : t.val < 16 := Nat.lt_of_lt_of_eq t.isLt N_1
    exact Bool.eq_false_iff.mpr fun e => h (by have := (flush1_5 t).mp e; omega)

end Cert.Proof.Fc
end
-- ==== Proof.FcRegion.lean ====
module

public import proofs.«01_k».proof.Proof.FcData

@[expose] public section

set_option maxRecDepth 16384

noncomputable section

namespace Cert.Proof.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

set_option maxHeartbeats 4000000 in
/-- The body does at every point what the proof data say. -/
theorem obligation (c : Dev nD) : BodyObligation (dat W c) (defs₀ (F := F)) Variants.none () Set.univ := fun t => by
  rw [bigSep_W1, bigSep_W1]
  obtain ⟨b0, b1, b2, b3, b4⟩ := before_in W c t
  simp only [b0, b1, b2, b3, b4]
  rw [show (dat W c).owesAt () t.succ = (dat W c).owesAt () t.castSucc from rfl,
    show (dat W c).Φ t.castSucc = inv W c t.val (Nat.le_of_lt t.isLt) from Pipeline.Dat.Φ_castSucc (inv W c) t,
    show (dat W c).Φ t.succ = inv W c (t.val + 1) t.isLt from rfl]
  unfold inv
  show _ ⊢ wp frame _ _ (bodyAt1 t) _
  have key := fun xs d K => body (F := F) c (grid1.coords t) (isLater_iff t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (win1_5.stage (cfg1.slots t 5)) (hstage1_5 ((cfg1.slots t 5).cast nbuf1_5)) scr (Memref.isWhole_whole _)
    (blk W c 0 t) (blk W c 1 t) (blk W c 2 t) (blk W c 3 t) (blk W c 4 t) d (acc W c xs t.val (Nat.le_of_lt t.isLt)) Set.univ K
  iintro ⟨⟨⟨%xs, HS⟩, Hr⟩, Ho, ⟨%d0, H0⟩, ⟨%d1, H1⟩, ⟨%d2, H2⟩, ⟨%d3, H3⟩, ⟨%d4, H4⟩, ⟨%d5, H5⟩⟩
  iapply (key xs ((dat W c).before 5 t d5) _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hr]
  · isplitl [HS]; · iexists xs; iexact HS
    iexact Hr
  isplitl [Ho]; · iexact Ho
  isplitl [H0]; · iexact H0
  isplitl [H1]; · iexact H1
  isplitl [H2]; · iexact H2
  isplitl [H3]; · iexact H3
  isplitl [H4]; · iexact H4
  by_cases h : t.val = 15
  · have e : idle1 5 (grid1.coords t) = false := idle_last t h
    simp only [e]
    unfold emit
    rw [if_pos ((isLast_iff t).mpr h)]
    rw [show (dat W c).after 5 t = k1_pay4 (acc W c xs (t.val + 1) t.isLt) (blk W c 2 t) (blk W c 3 t) (blk W c 4 t) from by
      rw [acc_indep W c xs (k1_pay1 (blk W c 0 t) (blk W c 1 t))]; rfl]
    iexact H5
  · have e : idle1 5 (grid1.coords t) = true := (idle_other t h).1
    have e' : (win1 5).flush t = false := (idle_other t h).2
    simp only [e, e']
    unfold emit
    rw [if_neg (mt (isLast_iff t).mp h)]
    iexists d5; iexact H5

end Cert.Proof.Fc
end
-- ==== Proof.Run.lean ====
module

public import proofs.«01_k».proof.Proof.ChebRegion
public import proofs.«01_k».proof.Proof.FcRegion
public import proofs.«01_k».proof.Proof.Gen.KernelIdeal.Regions

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg afterRegion)

variable {F : FTy → Type} [FloatOps F]

local notation "𝕄" => MT nD τ sig Unit (Elt F) ℕ (UR sig nD τ) ℕ

/-! ## What the two kernels leave -/

/-- A region with one output window changes that window's array and nothing else. -/
theorem afterRegion_eq_update {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w))) (w₀ : Fin cfg.W)
    (hout : ∀ w, w ≠ w₀ → (cfg.win w).isOut = false) :
    Function.update V (Proc.devRef .tc (Pipeline.arrRef cfg.spec w₀)) (afterRegion dat V (Proc.devRef .tc (Pipeline.arrRef cfg.spec w₀)))
      = afterRegion dat V := by
  funext b
  by_cases hb : b = Proc.devRef .tc (Pipeline.arrRef cfg.spec w₀)
  · subst hb; rw [Function.update_self]
  rw [Function.update_of_ne hb]
  by_cases hw : ∃ w, b = Proc.devRef .tc (Pipeline.arrRef cfg.spec w)
  · obtain ⟨w, rfl⟩ := hw
    exact (Pipeline.afterRegion_keeps dat V hinj hA _ fun w' e => hout w' fun e' => hb (by rw [← e, e'])).symm
  · unfold Pipeline.afterRegion; rw [dif_neg hw]

variable (m : (ℓ : Loc nD τ sig) → Buf (Elt F) ℓ)

/-- What the first kernel leaves. -/
def outs₁ : Outs (F := F) := fun _ r c => afterRegion (Cheb.dat (V1 m) c) (V1 m c) r

/-- What the two kernels leave. -/
def outs : Outs (F := F) := fun k r c =>
  if k = 2 then outs₁ m k r c else afterRegion (Fc.dat (V3 m (outs₁ m)) c) (V3 m (outs₁ m) c) r

/-- After the first launch: what its region leaves. -/
theorem V2_eq (c : Dev nD) : V2 m (outs m) c = afterRegion (Cheb.dat (V1 m) c) (V1 m c) :=
  afterRegion_eq_update (Cheb.dat (V1 m) c) (V1 m c) winFacts0.arr_inj (fun _ => rfl) (7 : Fin cfg0.W) (by decide)

/-- After the second: likewise. -/
theorem V4_eq (c : Dev nD) : V4 m (outs m) c = afterRegion (Fc.dat (V3 m (outs m)) c) (V3 m (outs m) c) :=
  afterRegion_eq_update (Fc.dat (V3 m (outs m)) c) (V3 m (outs m) c) winFacts1.arr_inj (fun _ => rfl) (5 : Fin cfg1.W) (by decide)

/-- The intermediate array is what the first region writes back. -/
theorem V2_main_v11 (c : Dev nD) : V2 m (outs m) c main_v11 = (Cheb.dat (V1 m) c).arrAt 7 cfg0.N := by
  rw [V2_eq]; exact Pipeline.afterRegion_arr (Cheb.dat (V1 m) c) (V1 m c) winFacts0.arr_inj (7 : Fin cfg0.W)

/-- The result is what the second region writes back. -/
theorem V4_main_v15 (c : Dev nD) : V4 m (outs m) c main_v15 = (Fc.dat (V3 m (outs m)) c).arrAt 5 cfg1.N := by
  rw [V4_eq]; exact Pipeline.afterRegion_arr (Fc.dat (V3 m (outs m)) c) (V3 m (outs m) c) winFacts1.arr_inj (5 : Fin cfg1.W)

/-! ## The two regions -/

/-- The regions' proof data. -/
abbrev pdats : (p : Fin 2) → (c : Dev nD) → Dat τ (Elt F) Unit ℕ (UR sig nD τ) ℕ (cfgs p) c
  | ⟨0, _⟩ => fun c => Cheb.dat (V1 m) c
  | ⟨1, _⟩ => fun c => Fc.dat (V3 m (outs m)) c

/-- Every TensorCore's cells may be waited on, all at one level; nothing is ever owed. -/
abbrev L : GSem nD τ sig → Finset Unit := fun g => if g.1.2 = .tc then {()} else ∅
/-- All at level zero. -/
abbrev lv : GSem nD τ sig → Unit → ℕ := fun _ _ => 0
/-- Nothing is owed. -/
abbrev due : Dev nD → CellTallies nD τ sig Unit := fun _ => 0

/-- What rides along between the items: the core owes nothing. -/
abbrev E : Fin 3 → Dev nD → sProp 𝕄 := fun _ c =>
  iprop((∃ Wd, owes (c : Thread nD τ) (due c) Wd) ∗ emp ∗ emp)

/-- The levels suit both launches. -/
theorem cut (p : Fin 2) : Pipeline.LevelCut (pcfgs (F := F)) adm () L lv p due (fun _ => 0) where
  hι _ _ _ := by simp [L]
  hιb _ _ _ := Nat.le_refl _
  hD _ _ _ h := absurd h (Nat.lt_irrefl 0)

set_option backward.isDefEq.respectTransparency.types false in
/-- The first kernel's region. -/
def R0 : RegionSeg (pcfgs (F := F)) adm (pdats m) () defs₀ Variants.none L lv 0 :=
  RegionSeg.ofHeldIn (pcfgs (F := F)) adm (pdats m) () defs₀ Variants.none L lv 0 due (Pipeline.ucRefs τ sig) (fun _ => iprop(emp)) (fun _ => iprop(emp))
    launch0.toP rfl (fun c => (Cheb.obligation (V1 m) c).loose) (fun _ _ => rfl) (fun _ => rfl) (fun c => (Cheb.dat (V1 m) c).share_full fun _ => rfl)
    (fun c => by
      show iprop(Pipeline.scopedRest spec0 c ∗ emp) ⊢ (Cheb.dat (V1 m) c).Φ 0
      iintro ⟨H, -⟩; iapply (Cheb.inv_start (V1 m) c); iexact H)
    (fun c => by
      show (Cheb.dat (V1 m) c).Φ (Fin.last _) ⊢ iprop(Pipeline.scopedRest spec0 c ∗ emp)
      iintro H; isplitl [H]
      · iapply (Cheb.inv_end (V1 m) c (Fin.last _)); iexact H
      iempintro)
    (fun _ => 0) (cut 0) (fun _ => iprop(emp)) (V1 m) (fun _ _ => rfl)

set_option backward.isDefEq.respectTransparency.types false in
/-- The second kernel's region. -/
def R1 : RegionSeg (pcfgs (F := F)) adm (pdats m) () defs₀ Variants.none L lv 1 :=
  RegionSeg.ofHeldIn (pcfgs (F := F)) adm (pdats m) () defs₀ Variants.none L lv 1 due (Pipeline.ucRefs τ sig) (fun _ => iprop(emp)) (fun _ => iprop(emp))
    launch1.toP rfl (fun c => (Fc.obligation (V3 m (outs m)) c).loose) (fun _ _ => rfl) (fun _ => rfl)
    (fun c => (Fc.dat (V3 m (outs m)) c).share_full fun _ => rfl)
    (fun c => by
      show iprop(Pipeline.scopedRest spec1 c ∗ emp) ⊢ (Fc.dat (V3 m (outs m)) c).Φ 0
      iintro ⟨H, -⟩; iapply (Fc.inv_start (V3 m (outs m)) c); iexact H)
    (fun c => by
      show (Fc.dat (V3 m (outs m)) c).Φ (Fin.last _) ⊢ iprop(Pipeline.scopedRest spec1 c ∗ emp)
      iintro H; isplitl [H]
      · iapply (Fc.inv_end (V3 m (outs m)) c (Fin.last _)); iexact H
      iempintro)
    (fun _ => 0) (cut 1) (fun _ => iprop(emp)) (V3 m (outs m)) (fun _ _ => rfl)

/-! ## The run -/

set_option backward.isDefEq.respectTransparency.types false in
/-- What is held before the first launch is what its region wants. -/
theorem enter0 (c : Dev nD) : iprop(StableHlo.held (c : Thread nD τ) (Pipeline.ucRefs τ sig) (V1 m c) ∗ E (F := F) 0 c) ⊢ (R0 m).pre c := by
  unfold R0
  exact Pipeline.RegionSeg.ofHeldIn_pre (pcs := pcfgs (F := F)) (a := adm) (pdats := pdats m) (p := 0) (D := due) (W := V1 m) (X := fun _ => iprop(emp)) (R := fun _ => iprop(emp)) (Pipeline.arrRefs_sub_ucRefs spec0 winFacts0.arr_unscoped) c

set_option backward.isDefEq.respectTransparency.types false in
/-- What its region leaves is what is held after it. -/
theorem leave0 (c : Dev nD) : (R0 m).post c ⊢ iprop(StableHlo.held (c : Thread nD τ) (Pipeline.ucRefs τ sig) (V2 m (outs m) c) ∗ E (F := F) 1 c) := by
  rw [V2_eq]
  unfold R0
  exact Pipeline.RegionSeg.ofHeldIn_post (pcs := pcfgs (F := F)) (a := adm) (pdats := pdats m) (p := 0) (Pipeline.arrRefs_sub_ucRefs spec0 winFacts0.arr_unscoped) c

set_option backward.isDefEq.respectTransparency.types false in
/-- The same before the second launch. -/
theorem enter1 (c : Dev nD) : iprop(StableHlo.held (c : Thread nD τ) (Pipeline.ucRefs τ sig) (V3 m (outs m) c) ∗ E (F := F) 1 c) ⊢ (R1 m).pre c := by
  unfold R1
  exact Pipeline.RegionSeg.ofHeldIn_pre (pcs := pcfgs (F := F)) (a := adm) (pdats := pdats m) (p := 1) (D := due) (W := V3 m (outs m)) (X := fun _ => iprop(emp)) (R := fun _ => iprop(emp)) (Pipeline.arrRefs_sub_ucRefs spec1 winFacts1.arr_unscoped) c

set_option backward.isDefEq.respectTransparency.types false in
/-- The same after it. -/
theorem leave1 (c : Dev nD) : (R1 m).post c ⊢ iprop(StableHlo.held (c : Thread nD τ) (Pipeline.ucRefs τ sig) (V4 m (outs m) c) ∗ E (F := F) 2 c) := by
  rw [V4_eq]
  unfold R1
  exact Pipeline.RegionSeg.ofHeldIn_post (pcs := pcfgs (F := F)) (a := adm) (pdats := pdats m) (p := 1) (Pipeline.arrRefs_sub_ucRefs spec1 winFacts1.arr_unscoped) c

/-- @main's items in order. -/
abbrev items (c : Dev nD) : List (Seg (pcfgs (F := F)) adm (pdats m) () defs₀ Variants.none L lv) :=
  segs m (outs m) Variants.none L lv (E (F := F)) () (pdats m) (R0 m) (R1 m) c

/-- A core's share of what the launch hands over, but for the buffers. -/
abbrev handed (ρ : Dev nD → PrngReg) (c : Dev nD) : sProp 𝕄 :=
  iprop(unscopedSems0 c ∗ owes (c : Thread nD τ) (due c) ∅ ∗ Pipeline.launchCred due c ∗ prngReg c (ρ c) ∗ emp)

/-- What a core is handed at the start is what rides along before the first item. -/
theorem handed_E (ρ : Dev nD → PrngReg) (c : Dev nD) : handed (F := F) ρ c ⊢ E (F := F) 0 c := by
  iintro ⟨-, H, -⟩
  isplitl [H]; · iexists _; iexact H
  isplitr <;> iempintro

set_option backward.isDefEq.respectTransparency.types false in
/-- Every execution ends, with every unscoped buffer at the last valuation and every semaphore at zero. -/
theorem run (ρ : Dev nD → PrngReg) :
    θ_run defs (onTc (τ := τ) (main (F := F))) ⟨m, fun _ => 0, ρ⟩ (fun r =>
      (∀ c : Dev nD, ∀ b : Ref sig .tc, (Proc.devRef .tc b : DevRef τ sig).isScoped = false → r.2.mem ((c.tc : Thread nD τ).loc b) = V4 m (outs m) c b)
      ∧ r.2.sem = fun _ => 0) := by
  refine Pipeline.θ_run_regions_kit_dev_sems (pcfgs (F := F)) adm (pdats m) () cellOf_inj emb₁ defs₀ Variants.none L lv m ρ main (items m)
    (fun c Q => by
      rewrite [main_chain c, Seg.run_eq_chain, show (items m c).map Seg.prog = [StableHlo.seq hostOps0, Prog.lift (.customCall (Pipeline.entry 0) ()),
        StableHlo.seq hostOps1, Prog.lift (.customCall (Pipeline.entry 1) ())] from rfl]
      dsimp (config := { failIfUnchanged := false }) only
      exact .rfl)
    (fun c => by simp only [items, segs, Seg.pipes_host, Seg.pipes_region, Seg.pipes_nil]; decide) due (fun g h => if_neg h) (fun _ => iprop(emp))
    (initOf (Pipeline.cells cfgs cellOf_inj) (Pipeline.launchToks cfgs cellOf_inj)) ?own
    (T₀ := fun c => iprop(StableHlo.held (c : Thread nD τ) (Pipeline.ucRefs τ sig) (V0 m c) ∗ E (F := F) 0 c))
    (Tₙ := fun c => StableHlo.held (c : Thread nD τ) (Pipeline.ucRefs τ sig) (V4 m (outs m) c))
    (hch := fun c => ⟨.rfl, enter0 m c, leave0 m c, enter1 m c, (leave1 m c).trans (sep_mono .rfl ?rest)⟩)
    (hinit := ?launch) (QY := fun c s => ∀ b : Ref sig .tc, (Proc.devRef .tc b : DevRef τ sig).isScoped = false → s.mem ((c.tc : Thread nD τ).loc b) = V4 m (outs m) c b)
    (hfin := fun c s' => ?_) (hQ := fun _ h hz => ⟨h, funext fun g => hz g (.inr (regions_no_unscoped g.2))⟩)
  case own =>
    iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case rest => iintro ⟨H, -⟩; iexact H
  case launch =>
    have key : ∀ c : Dev nD, iprop(unscopedBufs c (fun b => m ((c.tc : Thread nD τ).loc b)) ∗ handed (F := F) ρ c)
        ⊢ iprop(StableHlo.held (c : Thread nD τ) (Pipeline.ucRefs τ sig) (V0 m c) ∗ E (F := F) 0 c) := fun c =>
      by
      rw [← Pipeline.unscopedBufs_held (Ix := Unit) (Name := ℕ) (U := UR sig nD τ) (Lvl := ℕ) c (V0 m c)]
      iintro ⟨Hb, Hh⟩
      isplitl [Hb]; · iexact Hb
      iapply (handed_E ρ c); iexact Hh
    have all := bigSep_mono (s := Finset.univ) fun c _ => key c
    iintro ⟨H, -⟩
    imodintro
    iapply (show iprop(bigSep Finset.univ fun c : Dev nD => iprop(unscopedBufs c (fun b => m ((c.tc : Thread nD τ).loc b)) ∗ handed (F := F) ρ c)) ⊢ _ from all)
    iexact H
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by rw [hb]; decide⟩)
    · iexact HSI

end Cert.Proof
end
-- ==== Proof.Transfer.lean ====
module

public import proofs.«01_k».proof.Proof.Gen.Kernel.Regions
public import proofs.«01_k».proof.Proof.Gen.KernelIdeal.Regions

@[expose] public section
noncomputable section
namespace Cert.Proof
open Idealize.ShloMosaic Idealize.ShloMosaic.TcCoe

variable {F : FTy → Type} [FloatOps F]

set_option maxHeartbeats 8000000 in
/-- The bodies of the two printed programs are the same. -/
theorem bodies_eq : (Cert.Kernel.defs₀ (F := F)) = Cert.KernelIdeal.defs₀ (F := F) := by
  unfold Cert.Kernel.defs₀ Cert.KernelIdeal.defs₀
  congr 1; funext l a
  match l, a with
  | ⟨0, _⟩, (t, s) => exact rfl
  | ⟨1, _⟩, (t, s) => rfl

/-- And so are all they call. -/
theorem defs_eq : (Cert.Kernel.defs (F := F)) = Cert.KernelIdeal.defs (F := F) := by
  unfold Cert.Kernel.defs Cert.KernelIdeal.defs; rw [bodies_eq]; rfl

/-- The two main programs are the same. -/
theorem main_eq : (Cert.Kernel.main (F := F)) = Cert.KernelIdeal.main (F := F) := rfl

/-- A run of the idealized program, at any floats, is one of the kernel. -/
theorem run_kernel (m : (ℓ : Loc Cert.Kernel.nD Cert.Kernel.τ Cert.Kernel.sig) → Buf (Elt F) ℓ) (g : Dev Cert.Kernel.nD → PrngReg) (Q)
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [defs_eq, main_eq]; exact h

end Cert.Proof
end
-- ==== Proof.Frames.lean ====
/-
  The frame of the kernel, at any floats: it ends, its arguments are what they were, its semaphores are at zero, and its result is what the second
  region writes back.
-/
module

public import proofs.«01_k».proof.Proof.Run
public import proofs.«01_k».proof.Proof.Transfer

@[expose] public section

noncomputable section

namespace Cert.Proof

open Idealize.ShloMosaic Idealize.SL Idealize.SL.Sem Cert.KernelIdeal Cert.KernelIdeal.Gen

variable {F : FTy → Type} [FloatOps F]

/-- The ten arguments at the end are those of the start. -/
abbrev Kept (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)

/-- Every execution of the idealized kernel ends with its arguments kept, the semaphores at zero and the result in its buffer. -/
theorem kernel_ends (m : (ℓ : Loc nD τ sig) → Buf (Elt F) ℓ) (g : Dev nD → PrngReg) :
    θ_run defs (onTc (τ := τ) (main (F := F))) ⟨m, fun _ => 0, g⟩ (fun r =>
      (∀ c : Dev nD, Kept m r.2.mem c ∧ r.2.mem ((c.tc : Thread nD τ).loc main_v15) = V4 m (outs m) c (Proc.devRef .tc main_v15)) ∧ r.2.sem = fun _ => 0) :=
  (θ_run defs _ _).mono (fun r h => ⟨fun c =>
      ⟨⟨(h.1 c main_arg0 rfl).trans (V4_main_arg0 m (outs m) c), (h.1 c main_arg1 rfl).trans (V4_main_arg1 m (outs m) c),
        (h.1 c main_arg2 rfl).trans (V4_main_arg2 m (outs m) c), (h.1 c main_arg3 rfl).trans (V4_main_arg3 m (outs m) c),
        (h.1 c main_arg4 rfl).trans (V4_main_arg4 m (outs m) c), (h.1 c main_arg5 rfl).trans (V4_main_arg5 m (outs m) c),
        (h.1 c main_arg6 rfl).trans (V4_main_arg6 m (outs m) c), (h.1 c main_arg7 rfl).trans (V4_main_arg7 m (outs m) c),
        (h.1 c main_arg8 rfl).trans (V4_main_arg8 m (outs m) c), (h.1 c main_arg9 rfl).trans (V4_main_arg9 m (outs m) c)⟩,
      h.1 c main_v15 rfl⟩, h.2⟩) (run m g)

/-- The idealized kernel's frame. -/
theorem kernel_keeps (m : (ℓ : Loc nD τ sig) → Buf (Elt F) ℓ) (g : Dev nD → PrngReg) :
    θ_run defs (onTc (τ := τ) (main (F := F))) ⟨m, fun _ => 0, g⟩ (fun r => (∀ c : Dev nD, Kept m r.2.mem c) ∧ r.2.sem = fun _ => 0) :=
  (θ_run defs _ _).mono (fun _ h => ⟨fun c => (h.1 c).1, h.2⟩) (kernel_ends m g)

end Cert.Proof
end
-- ==== Proof.KerHost.lean ====
/-
  What the host's reshapes and broadcasts hand to the two kernels.
-/
module

public import proofs.«01_k».proof.Proof.Run
public import Idealize.ShloMosaic.Lib.Pointwise
public import Idealize.ShloMosaic.Lib.Claim

@[expose] public section

set_option maxRecDepth 16384

noncomputable section

namespace Cert.Proof.Host

open Idealize.ShloMosaic Idealize.ShloMosaic.TcCoe Cert.KernelIdeal Cert.KernelIdeal.Gen Cert.Proof

variable (m : (ℓ : Loc nD τ sig) → Buf (Elt Ideal) ℓ) (c : Dev nD)

/-- An argument is what it was before the first kernel, -/
theorem kept_one (r : Ref sig .tc) (h : r ∉ hostOps0_W) : V1 m c r = m ((c.tc : Thread nD τ).loc r) := (V1_of m c r h).trans rfl
/-- between the two, -/
theorem kept_two (r : Ref sig .tc) (h : r ∉ hostOps0_W) (h' : r ∉ ([main_v11] : List (Ref sig .tc))) : V2 m (outs m) c r = m ((c.tc : Thread nD τ).loc r) :=
  (V2_of m (outs m) c r h').trans (kept_one m c r h)
/-- and before the second. -/
theorem kept_three (r : Ref sig .tc) (h : r ∉ hostOps0_W) (h' : r ∉ ([main_v11] : List (Ref sig .tc))) (h'' : r ∉ hostOps1_W) :
    V3 m (outs m) c r = m ((c.tc : Thread nD τ).loc r) :=
  (V3_of m (outs m) c r h'').trans (kept_two m c r h h')

/-! ## Before the first kernel -/

/-- The signals, without their last axis. -/
theorem v0_apply (i : Fin 64) (n : Fin 1024) :
    (V1 m c (Proc.devRef .tc main_v0) : Vec Ideal S64x1024 .f32) (ix2 i n) = (m ((c.tc : Thread nD τ).loc main_arg0) : Vec Ideal S64x1024x1 .f32) (ix3 i n 0) := by
  after_results
  pointwise

/-- The first layer's weights, spread over two more axes. -/
theorem v2_apply (k : Fin 10) (g : Fin 20) :
    (V1 m c (Proc.devRef .tc main_v2) : Vec Ideal S10x20x1x1 .f32) (ix4 k g 0 0) = (m ((c.tc : Thread nD τ).loc main_arg2) : Vec Ideal S10x1x20 .f32) (ix3 k 0 g) := by
  after_results
  pointwise

/-- Its biases, likewise. -/
theorem v3_apply (g : Fin 20) :
    (V1 m c (Proc.devRef .tc main_v3) : Vec Ideal S20x1x1 .f32) (ix3 g 0 0) = (m ((c.tc : Thread nD τ).loc main_arg3) : Vec Ideal S20 .f32) (ix1 g) := by
  after_results
  pointwise

/-- The second layer's biases, as a column. -/
theorem v10_apply (f : Fin 50) :
    (V1 m c (Proc.devRef .tc main_v10) : Vec Ideal S50x1 .f32) (ix2 f 0) = (m ((c.tc : Thread nD τ).loc main_arg5) : Vec Ideal S50 .f32) (ix1 f) := by
  after_results
  pointwise

/-- The unit matrix. -/
theorem v9_apply (i j : Fin 50) :
    (V1 m c (Proc.devRef .tc main_v9) : Vec Ideal S50x50 .f32) (ix2 i j) = (if i = j then (1 : EReal) else 0) := by
  have hb : ∀ i j : Fin 50, IntOp.cmpi .eq (IntOp.addi (BitVec.ofNat 32 i.val) 0#32) (BitVec.ofNat 32 j.val) = if i = j then 1#1 else 0#1 := by
    decide +kernel
  after_results
  pointwise
  rw [hb]
  show ((((if i = j then 1#1 else 0#1) : BitVec 1).toNat : ℝ) : EReal) = _
  split <;> simp

/-! ## Before the second -/

/-- The rows of the first kernel's result, laid one graph to a row. -/
theorem v12_apply (i : Fin 64) (j : Fin 51200) :
    (V3 m (outs m) c (Proc.devRef .tc main_v12) : Vec Ideal S64x51200 .bf16) (ix2 i j) = (V2 m (outs m) c (Proc.devRef .tc main_v11) : Vec Ideal S65536x50 .bf16) (ix2 ⟨i * 1024 + j / 50, by omega⟩ ⟨j % 50, by omega⟩) := by
  after_results
  generalize V2 m (outs m) c (Proc.devRef .tc main_v11) = y
  pointwise

/-- The dense layer's biases, as a row. -/
theorem v13_apply (o : Fin 300) :
    (V3 m (outs m) c (Proc.devRef .tc main_v13) : Vec Ideal S1x300 .f32) (ix2 0 o) = (m ((c.tc : Thread nD τ).loc main_arg7) : Vec Ideal S300 .f32) (ix1 o) := by
  refine Eq.trans ?_ (congrFun (kept_two m c main_arg7 (by decide) (by decide)) (ix1 o))
  generalize hV : V2 m (outs m) c = V
  unfold V3
  rw [hV]
  after_results
  pointwise

/-- The last layer's biases, as a row. -/
theorem v14_apply (o : Fin 10) :
    (V3 m (outs m) c (Proc.devRef .tc main_v14) : Vec Ideal S1x10 .f32) (ix2 0 o) = (m ((c.tc : Thread nD τ).loc main_arg9) : Vec Ideal S10 .f32) (ix1 o) := by
  refine Eq.trans ?_ (congrFun (kept_two m c main_arg9 (by decide) (by decide)) (ix1 o))
  generalize hV : V2 m (outs m) c = V
  unfold V3
  rw [hV]
  after_results
  pointwise

end Cert.Proof.Host
end
-- ==== Proof.Net.lean ====
/-
  The network's numbers, one at a time: Chebyshev terms, the two graph convolutions, the dense layers, over the extended reals.
-/
module

public import Mathlib.Data.EReal.Inv
public import Idealize.ShloMosaic.Lib.Pointwise
public import Mathlib.Algebra.BigOperators.Fin

@[expose] public section

noncomputable section

namespace Cert.Proof.Net

/-- The operator of a graph on its 1024 nodes: `M m n` is the weight with which node `m` enters node `n`. -/
abbrev Op := Fin 1024 → Fin 1024 → EReal
/-- A signal on the nodes. -/
abbrev Signal := Fin 1024 → EReal

/-- The operator applied to a signal. -/
def apply (M : Op) (u : Signal) : Signal := fun n => ∑ m, u m * M m n

/-- The Chebyshev terms of a signal. -/
def cheb (M : Op) (u : Signal) : ℕ → Signal
  | 0 => u
  | 1 => apply M u
  | k + 2 => fun n => 2 * apply M (cheb M u (k + 1)) n - cheb M u k n

/-- The first graph convolution with its bias, then the positive part: node `n`, feature `g`. -/
def first (M : Op) (u : Signal) (w : Fin 10 → Fin 20 → EReal) (b : Fin 20 → EReal) (g : Fin 20) : Signal := fun n =>
  max ((∑ k : Fin 10, cheb M u k n * w k g) + b g) 0

/-- The second, over the twenty features of the first. -/
def second (M : Op) (h : Fin 20 → Signal) (w : Fin 10 → Fin 20 → Fin 50 → EReal) (b : Fin 50 → EReal) (f : Fin 50) : Signal := fun n =>
  max ((∑ k : Fin 10, ∑ g : Fin 20, cheb M (h g) k n * w k g f) + b f) 0

/-- A sum of products over the extended reals, every factor on the right scaled by two, is the sum scaled by two. -/
theorem sum_mul_two {ι : Type} (s : Finset ι) (f g : ι → EReal) : ∑ i ∈ s, f i * (2 * g i) = 2 * ∑ i ∈ s, f i * g i := by
  classical
  induction s using Finset.induction_on with
  | empty => simp
  | insert a s ha ih =>
    rw [Finset.sum_insert ha, Finset.sum_insert ha, ih, EReal.left_distrib_of_nonneg_of_ne_top (by norm_num) (by decide)]
    exact congrArg (· + _) (mul_left_comm (f a) 2 (g a))

/-- A sum against a row of the unit matrix picks one term. -/
theorem sum_mul_unit {ι : Type} [Fintype ι] [DecidableEq ι] (f : ι → EReal) (j : ι) : ∑ i, f i * (if i = j then 1 else 0) = f j := by
  simp

/-- A recurrence step with twice the operator is the next Chebyshev term. -/
theorem cheb_step (M : Op) (u : Signal) (k : ℕ) (n : Fin 1024) :
    (∑ m, cheb M u (k + 1) m * (2 * M m n)) - cheb M u k n = cheb M u (k + 2) n := by
  rw [sum_mul_two]; rfl

/-- The largest of ten scores. -/
def peak (l : Fin 10 → EReal) : EReal := Finset.univ.fold max ⊥ l

/-- The logarithm of the softmax of ten scores, with the largest score taken off first. -/
def logSoftmax (l : Fin 10 → EReal) (q : Fin 10) : EReal :=
  l q - peak l - Idealize.ShloMosaic.Ideal.log (∑ k, Idealize.ShloMosaic.Ideal.exp (l k - peak l))

/-- The scores that two dense layers, with a rectifier between them, give to a graph of 51200 features. -/
def scores (z : Fin 51200 → EReal) (w : Fin 51200 → Fin 300 → EReal) (b : Fin 300 → EReal) (v : Fin 300 → Fin 10 → EReal)
    (d : Fin 10 → EReal) (q : Fin 10) : EReal :=
  (∑ o, max ((∑ j, z j * w j o) + b o) 0 * v o q) + d q

/-- The graph's features in the order of the dense layers: the node first, then the second convolution's feature. -/
def flat (h : Fin 50 → Signal) (j : Fin 51200) : EReal := h ⟨j % 50, by omega⟩ ⟨j / 50, by omega⟩

/-- Starting the search for the largest score from the smallest number changes nothing. -/
theorem max_peak (l : Fin 10 → EReal) : max ⊥ (peak l) = peak l := max_eq_right bot_le

/-- The code of the smallest number. -/
theorem bottom_f32 : Idealize.ShloMosaic.Ideal.ofBits .f32 0xFF800000#32 = (⊥ : EReal) := by simp [Idealize.ShloMosaic.Ideal.ofBits, Idealize.ShloMosaic.Ideal.ieee]

end Cert.Proof.Net
end
-- ==== Proof.RefTerms.lean ====
/-
  The reference's steps, read at an index: a Chebyshev term from the two before it.
-/
module

public import proofs.«01_k».proof.Proof.Net
public import proofs.«01_k».proof.Proof.Gen.ReferenceIdeal.Read
public import Idealize.ShloMosaic.Lib.Pointwise

@[expose] public section

set_option maxRecDepth 16384

noncomputable section

namespace Cert.Proof.Ref

open Idealize.ShloMosaic Cert.ReferenceIdeal Cert.ReferenceIdeal.Gen Cert.ReferenceIdeal.Read Cert.Proof

/-- The word of the constant two. -/
theorem two_f32 : (Ideal.ofBits .f32 0x40000000#32 : EReal) = 2 := by
  simp [Ideal.ofBits, Ideal.ieee]
  rw [← EReal.coe_mul]
  norm_num
  rfl

/-- The operator as the reference reads it: its matrix multiplies from the left. -/
abbrev op (L : FVec Ideal S1024x1024 .f32) : Net.Op := fun m n => L (ix2 n m)

variable (L : FVec Ideal S1024x1024 .f32)

/-- The operator applied to the array of signals, one for each graph of the batch. -/
theorem applyOne (T : FVec Ideal S64x1024x1 .f32) (b : Fin 64) (n : Fin 1024) :
    transpose S64x1024x1 [0, 2, 1] (Host.dotGeneral dot_S64x1024x1_S1024x1024_S64x1x1024_1_1_02_0_n_n none T L) transposes_S64x1x1024_S64x1024x1_0_2_1 (ix3 b n 0)
      = Net.apply (op L) (fun m => T (ix3 b m 0)) n := by
  pointwise [Net.apply]

/-- The next term of the recurrence, from the two before it. -/
theorem nextOne {T T' : FVec Ideal S64x1024x1 .f32} {u : Fin 64 → Net.Signal} {k : ℕ}
    (h : ∀ b n, T (ix3 b n 0) = Net.cheb (op L) (u b) (k + 1) n) (h' : ∀ b n, T' (ix3 b n 0) = Net.cheb (op L) (u b) k n)
    (b : Fin 64) (n : Fin 1024) :
    subf (mulf (broadcastInDim S64x1024x1 ![] bcast_S_S64x1024x1 (constant S_ .f32 0x40000000#32))
      (transpose S64x1024x1 [0, 2, 1] (Host.dotGeneral dot_S64x1024x1_S1024x1024_S64x1x1024_1_1_02_0_n_n none T L) transposes_S64x1x1024_S64x1024x1_0_2_1)) T' (ix3 b n 0)
      = Net.cheb (op L) (u b) (k + 2) n := by
  have e := applyOne L T b n
  simp only [h] at e
  pointwise
  pointwise at e
  rw [h', two_f32]
  simp only [h]
  rfl

/-- The operator applied to the array of signals, twenty for each graph of the batch. -/
theorem applyMany (T : FVec Ideal S64x1024x20 .f32) (b : Fin 64) (g : Fin 20) (n : Fin 1024) :
    transpose S64x1024x20 [0, 2, 1] (Host.dotGeneral dot_S64x1024x20_S1024x1024_S64x20x1024_1_1_02_0_n_n none T L) transposes_S64x20x1024_S64x1024x20_0_2_1 (ix3 b n g)
      = Net.apply (op L) (fun m => T (ix3 b m g)) n := by
  pointwise [Net.apply]

/-- The next term of the recurrence, from the two before it. -/
theorem nextMany {T T' : FVec Ideal S64x1024x20 .f32} {u : Fin 64 → Fin 20 → Net.Signal} {k : ℕ}
    (h : ∀ b g n, T (ix3 b n g) = Net.cheb (op L) (u b g) (k + 1) n) (h' : ∀ b g n, T' (ix3 b n g) = Net.cheb (op L) (u b g) k n)
    (b : Fin 64) (g : Fin 20) (n : Fin 1024) :
    subf (mulf (broadcastInDim S64x1024x20 ![] bcast_S_S64x1024x20 (constant S_ .f32 0x40000000#32))
      (transpose S64x1024x20 [0, 2, 1] (Host.dotGeneral dot_S64x1024x20_S1024x1024_S64x20x1024_1_1_02_0_n_n none T L) transposes_S64x20x1024_S64x1024x20_0_2_1)) T' (ix3 b n g)
      = Net.cheb (op L) (u b g) (k + 2) n := by
  have e := applyMany L T b g n
  simp only [h] at e
  pointwise
  pointwise at e
  rw [h', two_f32]
  simp only [h]
  rfl

end Cert.Proof.Ref
end
-- ==== Proof.KerOne.lean ====
/-
  The first kernel's first grid point, read at an index: the Chebyshev terms of the signal and the first convolution.
-/
module

public import proofs.«01_k».proof.Proof.ChebVals
public import proofs.«01_k».proof.Proof.RefTerms

@[expose] public section

set_option maxRecDepth 16384

noncomputable section

namespace Cert.Proof.Ker

open Idealize.ShloMosaic Cert.KernelIdeal Cert.KernelIdeal.Gen Cert.Proof Cert.Proof.Cheb

/-- The operator as the kernel reads it: its matrix multiplies from the right. -/
abbrev op (L : Vec Ideal S1024x1024 .f32) : Net.Op := fun m n => L (ix2 m n)

variable (L : Vec Ideal S1024x1024 .f32) (x : Vec Ideal S64x1024 .f32) (w : Vec Ideal S10x20x1x1 .f32) (b : Vec Ideal S20x1x1 .f32)

/-- The signal of one graph of the batch, and the first convolution's weights and bias. -/
abbrev input (i : Fin 64) : Net.Signal := fun n => x (ix2 i n)
/-- Weight `k` of feature `g`. -/
abbrev weightOne (k : Fin 10) (g : Fin 20) : EReal := w (ix4 k g 0 0)
/-- The bias of feature `g`. -/
abbrev biasOne (g : Fin 20) : EReal := b (ix3 g 0 0)

/-- The operator applied to every signal of an array. -/
theorem applied (T : FVec Ideal S64x1024 .f32) {u : Fin 64 → Net.Signal} (h : ∀ i n, T (ix2 i n) = u i n) (i : Fin 64) (n : Fin 1024) :
    matmul dot_S64x1024_S1024x1024_S64x1024_1_0_0_1_n_n none (truncf .bf16 T bitsLt_bf16_f32) (k0_pay11 (F := Ideal) L) (constant S64x1024 .f32 0x00000000#32) (ix2 i n)
      = Net.apply (op L) (u i) n := by
  pointwise [k0_pay11]
  simp only [h]
  rfl

/-- A step of the recurrence on such arrays. -/
theorem step {T T' : FVec Ideal S64x1024 .f32} {u : Fin 64 → Net.Signal} {k : ℕ} (h : ∀ i n, T (ix2 i n) = Net.cheb (op L) (u i) (k + 1) n)
    (h' : ∀ i n, T' (ix2 i n) = Net.cheb (op L) (u i) k n) (i : Fin 64) (n : Fin 1024) :
    subf (mulf (broadcast S64x1024 (Scalar.ofBits .f32 0x40000000#32))
      (matmul dot_S64x1024_S1024x1024_S64x1024_1_0_0_1_n_n none (truncf .bf16 T bitsLt_bf16_f32) (k0_pay11 (F := Ideal) L) (constant S64x1024 .f32 0x00000000#32))) T' (ix2 i n)
      = Net.cheb (op L) (u i) (k + 2) n := by
  have e := applied L T h i n
  pointwise [k0_pay11]
  pointwise [k0_pay11] at e
  rw [h', Ref.two_f32, e]
  rfl

/-- Term 0 of the kernel's first recursion is the network's. -/
theorem one_0 (i : Fin 64) (n : Fin 1024) : k0_pay13 (F := Ideal) x (ix2 i n) = Net.cheb (op L) (input x i) 0 n := by
  pointwise [k0_pay13, Net.cheb]
/-- Term 1 of the kernel's first recursion is the network's. -/
theorem one_1 : ∀ i n, k0_pay14 (F := Ideal) L x (ix2 i n) = Net.cheb (op L) (input x i) 1 n := applied L _ (one_0 L x)
/-- Term 2 of the kernel's first recursion is the network's. -/
theorem one_2 : ∀ i n, k0_pay15 (F := Ideal) L x (ix2 i n) = Net.cheb (op L) (input x i) 2 n := step L (one_1 L x) (one_0 L x)
/-- Term 3 of the kernel's first recursion is the network's. -/
theorem one_3 : ∀ i n, k0_pay18 (F := Ideal) (k0_pay11 L) (k0_pay14 L x) (k0_pay17 L x) (ix2 i n) = Net.cheb (op L) (input x i) 3 n := step L (one_2 L x) (one_1 L x)
/-- Term 4 of the kernel's first recursion is the network's. -/
theorem one_4 : ∀ i n, k0_pay19 (F := Ideal) (k0_pay11 L) (k0_pay14 L x) (k0_pay15 L x) (k0_pay17 L x) (ix2 i n) = Net.cheb (op L) (input x i) 4 n := step L (one_3 L x) (one_2 L x)
/-- Term 5 of the kernel's first recursion is the network's. -/
theorem one_5 : ∀ i n, termSix (F := Ideal) L x (ix2 i n) = Net.cheb (op L) (input x i) 5 n := step L (one_4 L x) (one_3 L x)
/-- Term 6 of the kernel's first recursion is the network's. -/
theorem one_6 : ∀ i n, termSeven (F := Ideal) L x (ix2 i n) = Net.cheb (op L) (input x i) 6 n := step L (one_5 L x) (one_4 L x)
/-- Term 7 of the kernel's first recursion is the network's. -/
theorem one_7 : ∀ i n, k0_pay23 (F := Ideal) (k0_pay11 L) (termSix L x) (termSeven L x) (ix2 i n) = Net.cheb (op L) (input x i) 7 n := step L (one_6 L x) (one_5 L x)
/-- Term 8 of the kernel's first recursion is the network's. -/
theorem one_8 : ∀ i n, k0_pay24 (F := Ideal) (k0_pay11 L) (termSix L x) (termSeven L x) (ix2 i n) = Net.cheb (op L) (input x i) 8 n := step L (one_7 L x) (one_6 L x)
/-- Term 9 of the kernel's first recursion is the network's. -/
theorem one_9 : ∀ i n, termTen (F := Ideal) L x (ix2 i n) = Net.cheb (op L) (input x i) 9 n := step L (one_8 L x) (one_7 L x)

/-- The weights of one term, read off the block of all. -/
theorem weight_apply (k : ℕ) (hk : ∀ a, (![k, 0, 0, 0] : Fin 4 → ℕ) a + S1x20x1x1.size a ≤ S10x20x1x1.size a) (k' : k < 10) (g : Fin 20) :
    weight (F := Ideal) w k hk (ix4 0 g 0 0) = weightOne w ⟨k, k'⟩ g := by
  refine congrArg w (funext fun a => Fin.ext ?_)
  match a with
  | ⟨0, _⟩ => exact Nat.add_zero _
  | ⟨1, _⟩ => show 0 + 1 * g.val = g.val; omega
  | ⟨2, _⟩ => rfl
  | ⟨3, _⟩ => rfl

/-- The first three terms, weighed and summed; -/
theorem sum_three (g : Fin 20) (i : Fin 64) (n : Fin 1024) (w0 w1 w2 : Vec Ideal S1x20x1x1 .f32) :
    k0_pay16 (F := Ideal) L x w0 w1 w2 (ix3 g i n)
      = Net.cheb (op L) (input x i) 0 n * w0 (ix4 0 g 0 0) + Net.cheb (op L) (input x i) 1 n * w1 (ix4 0 g 0 0)
        + Net.cheb (op L) (input x i) 2 n * w2 (ix4 0 g 0 0) := by
  unfold k0_pay16
  rw [← one_0, ← one_1, ← one_2]
  generalize k0_pay13 (F := Ideal) x = t0, k0_pay14 (F := Ideal) L x = t1, k0_pay15 (F := Ideal) L x = t2
  pointwise
  simp only [mul_comm]

/-- the next three added; -/
theorem sum_six (g : Fin 20) (i : Fin 64) (n : Fin 1024) (s : FVec Ideal S20x64x1024 .f32) (w0 w1 w2 : Vec Ideal S1x20x1x1 .f32) :
    k0_pay21 (F := Ideal) (k0_pay11 L) (k0_pay14 L x) (k0_pay15 L x) s (k0_pay17 L x) w0 w1 w2 (ix3 g i n)
      = s (ix3 g i n) + Net.cheb (op L) (input x i) 3 n * w0 (ix4 0 g 0 0) + Net.cheb (op L) (input x i) 4 n * w1 (ix4 0 g 0 0)
        + Net.cheb (op L) (input x i) 5 n * w2 (ix4 0 g 0 0) := by
  unfold k0_pay21
  rw [← one_3, ← one_4, ← one_5, termSix]
  generalize k0_pay18 (F := Ideal) (k0_pay11 L) (k0_pay14 L x) (k0_pay17 L x) = t0,
    k0_pay19 (F := Ideal) (k0_pay11 L) (k0_pay14 L x) (k0_pay15 L x) (k0_pay17 L x) = t1,
    k0_pay20 (F := Ideal) (k0_pay11 L) (k0_pay14 L x) (k0_pay15 L x) (k0_pay17 L x) = t2
  pointwise
  simp only [mul_comm]

/-- three more; -/
theorem sum_nine (g : Fin 20) (i : Fin 64) (n : Fin 1024) (s : FVec Ideal S20x64x1024 .f32) (w0 w1 w2 : Vec Ideal S1x20x1x1 .f32) :
    k0_pay25 (F := Ideal) (k0_pay11 L) (termSix L x) s (termSeven L x) w0 w1 w2 (ix3 g i n)
      = s (ix3 g i n) + Net.cheb (op L) (input x i) 6 n * w0 (ix4 0 g 0 0) + Net.cheb (op L) (input x i) 7 n * w1 (ix4 0 g 0 0)
        + Net.cheb (op L) (input x i) 8 n * w2 (ix4 0 g 0 0) := by
  unfold k0_pay25
  rw [← one_6, ← one_7, ← one_8]
  generalize termSeven (F := Ideal) L x = t0
  generalize k0_pay23 (F := Ideal) (k0_pay11 L) (termSix L x) t0 = t1,
    k0_pay24 (F := Ideal) (k0_pay11 L) (termSix L x) t0 = t2
  pointwise
  simp only [mul_comm]

/-- all nine. -/
theorem sumNine_eq (g : Fin 20) (i : Fin 64) (n : Fin 1024) :
    sumNine (F := Ideal) L x w (ix3 g i n) = ∑ k : Fin 9, Net.cheb (op L) (input x i) k n * weightOne w k.castSucc g := by
  unfold sumNine sumSix
  rw [sum_nine, sum_six, sum_three]
  simp only [Fin.sum_univ_castSucc (n := 8), Fin.sum_univ_castSucc (n := 7), Fin.sum_univ_castSucc (n := 6),
    Fin.sum_univ_castSucc (n := 5), Fin.sum_univ_castSucc (n := 4), Fin.sum_univ_castSucc (n := 3), Fin.sum_univ_castSucc (n := 2),
    Fin.sum_univ_castSucc (n := 1), Fin.sum_univ_castSucc (n := 0), Finset.univ_eq_empty, Finset.sum_empty, zero_add]
  rw [weight_apply w 0 _ (by decide), weight_apply w 1 _ (by decide), weight_apply w 2 _ (by decide), weight_apply w 3 _ (by decide), weight_apply w 4 _ (by decide), weight_apply w 5 _ (by decide), weight_apply w 6 _ (by decide), weight_apply w 7 _ (by decide), weight_apply w 8 _ (by decide)]
  rfl

/-- The first convolution's result: a row for each feature and graph, the feature first. -/
abbrev hidden (r : Fin 1280) : Net.Signal :=
  Net.first (op L) (input x ⟨r % 64, by omega⟩) (weightOne w) (biasOne b) ⟨r / 64, by omega⟩

/-- The first convolution's result, with the bias and the cut at zero, row by row. -/
theorem first_eq (r : Fin 1280) (n : Fin 1024) :
    k0_pay1 (F := Ideal) (sumNine L x w) (termTen L x) (weightTen w) b (ix2 r n) = hidden L x w b r n := by
  have e : ∀ g : Fin 20, weightTen (F := Ideal) w (ix3 g 0 0) = weightOne w 9 g := fun g => by
    refine Eq.trans ?_ (weight_apply w 9 inb_S10x20x1x1_S1x20x1x1_9_0_0_0 (by decide) g)
    unfold weightTen
    generalize weight (F := Ideal) w 9 _ = v
    pointwise [k0_pay27]
  have e1 := sumNine_eq L x w ⟨r / 64, by omega⟩ ⟨r % 64, by omega⟩ n
  have e2 := one_9 L x ⟨r % 64, by omega⟩ n
  have e3 := e ⟨r / 64, by omega⟩
  revert e1 e2 e3
  generalize sumNine (F := Ideal) L x w = s, termTen (F := Ideal) L x = t, weightTen (F := Ideal) w = v
  intro e1 e2 e3
  pointwise [k0_pay1]
  rw [e1, e2, e3]
  unfold hidden Net.first
  rw [Fin.sum_univ_castSucc (n := 9), mul_comm (weightOne w 9 _)]
  rfl

end Cert.Proof.Ker
end
-- ==== Proof.KerTwo.lean ====
/-
  The rest of the first kernel, read at an index: the Chebyshev terms of the first convolution's result, the second convolution and the
  transposed block it writes.
-/
module

public import proofs.«01_k».proof.Proof.KerOne

@[expose] public section

set_option maxRecDepth 16384

noncomputable section

namespace Cert.Proof.Ker

open Idealize.ShloMosaic Cert.KernelIdeal Cert.KernelIdeal.Gen Cert.Proof Cert.Proof.Cheb

/-- The word of the constant two, in the shorter format. -/
theorem two_bf16 : (Ideal.ofBits .bf16 0x4000#16 : EReal) = 2 := by
  simp [Ideal.ofBits, Ideal.ieee]
  rw [← EReal.coe_mul]
  norm_num
  rfl

/-- Twice the operator. -/
theorem twice_apply (L : Vec Ideal S1024x1024 .f32) (m n : Fin 1024) : k0_pay12 (F := Ideal) L (ix2 m n) = 2 * op L m n := by
  pointwise [k0_pay12, k0_pay11]
  rw [two_bf16]

/-! ## The terms -/

variable (L : Vec Ideal S1024x1024 .f32) {u : Fin 1280 → Net.Signal}

/-- The operator applied to every row. -/
theorem rows_applied (T : FVec Ideal S1280x1024 .f32) (h : ∀ r n, T (ix2 r n) = u r n) (r : Fin 1280) (n : Fin 1024) :
    matmul dot_S1280x1024_S1024x1024_S1280x1024_1_0_0_1_n_n none (truncf .bf16 T bitsLt_bf16_f32) (k0_pay11 (F := Ideal) L) (constant S1280x1024 .f32 0x00000000#32) (ix2 r n)
      = Net.apply (op L) (u r) n := by
  pointwise [k0_pay11]
  simp only [h]
  rfl

/-- A step of the recurrence on the rows, with twice the operator. -/
theorem rows_step {T T' : FVec Ideal S1280x1024 .f32} {k : ℕ} (h : ∀ r n, T (ix2 r n) = Net.cheb (op L) (u r) (k + 1) n)
    (h' : ∀ r n, T' (ix2 r n) = Net.cheb (op L) (u r) k n) (r : Fin 1280) (n : Fin 1024) :
    subf (matmul dot_S1280x1024_S1024x1024_S1280x1024_1_0_0_1_n_n none (truncf .bf16 T bitsLt_bf16_f32) (k0_pay12 (F := Ideal) L)
      (constant S1280x1024 .f32 0x00000000#32)) T' (ix2 r n) = Net.cheb (op L) (u r) (k + 2) n := by
  rw [← Net.cheb_step]
  have e := twice_apply L
  revert e
  generalize k0_pay12 (F := Ideal) L = M
  intro e
  pointwise
  simp only [h, h', e]

/-- A slot of the terms' buffer as rows. -/
theorem slot_rows (T : Vec Ideal S1x1280x1024 .f32) (r : Fin 1280) (n : Fin 1024) :
    (shapeCast S1280x1024 T shapeCasts_S1x1280x1024_S1280x1024 : FVec Ideal S1280x1024 .f32) (ix2 r n) = T (ix3 0 r n) := by
  pointwise

/-- Rows put into a slot are read back unchanged. -/
theorem rows_slot (T : FVec Ideal S1280x1024 .f32) (r : Fin 1280) (n : Fin 1024) :
    (shapeCast S1x1280x1024 T shapeCasts_S1280x1024_S1x1280x1024 : FVec Ideal S1x1280x1024 .f32) (ix3 0 r n) = T (ix2 r n) := by
  pointwise

/-- The next two terms of the recurrence, as rows -/
theorem next_lo {lo hi : Vec Ideal S1x1280x1024 .f32} {k : ℕ} (h : ∀ r n, lo (ix3 0 r n) = Net.cheb (op L) (u r) k n)
    (h' : ∀ r n, hi (ix3 0 r n) = Net.cheb (op L) (u r) (k + 1) n) :
    ∀ r n, k0_pay28 (F := Ideal) (k0_pay12 L) hi lo (ix2 r n) = Net.cheb (op L) (u r) (k + 2) n :=
  rows_step L (fun r n => (slot_rows hi r n).trans (h' r n)) (fun r n => (slot_rows lo r n).trans (h r n))

/-- The later of the two. -/
theorem next_hi {lo hi : Vec Ideal S1x1280x1024 .f32} {k : ℕ} (h : ∀ r n, lo (ix3 0 r n) = Net.cheb (op L) (u r) k n)
    (h' : ∀ r n, hi (ix3 0 r n) = Net.cheb (op L) (u r) (k + 1) n) :
    ∀ r n, k0_pay29 (F := Ideal) (k0_pay12 L) hi lo hi (ix2 r n) = Net.cheb (op L) (u r) (k + 3) n :=
  rows_step L (next_lo L h h') (fun r n => (slot_rows hi r n).trans (h' r n))

/-! ## The weighed sums: a column for each graph and node, the graph first -/

/-- Two terms against a block of two weights. -/
def pair (W : Vec Ideal S2x20x50 .f32) (lo hi : Fin 1280 → Net.Signal) (f : Fin 50) (q : Fin 65536) : EReal :=
  (∑ g : Fin 20, lo ⟨g * 64 + q / 1024, by omega⟩ ⟨q % 1024, by omega⟩ * W (ix3 0 g f))
    + ∑ g : Fin 20, hi ⟨g * 64 + q / 1024, by omega⟩ ⟨q % 1024, by omega⟩ * W (ix3 1 g f)

/-- The kernel's product of a block of weights with two terms, stacked, is their pair. -/
theorem pair_eq (W : Vec Ideal S2x20x50 .f32) (lo hi : FVec Ideal S1280x1024 .f32) {lo' hi' : Fin 1280 → Net.Signal}
    (h : ∀ r n, lo (ix2 r n) = lo' r n) (h' : ∀ r n, hi (ix2 r n) = hi' r n) (f : Fin 50) (q : Fin 65536) :
    matmul dot_S40x50_S40x65536_S50x65536_0_0_1_1_n_n none (shapeCast S40x50 W shapeCasts_S2x20x50_S40x50 : FVec Ideal S40x50 .f32)
      (concatenate S40x65536 0 [⟨S20x65536, shapeCast S20x65536 (shapeCast S20x64x1024 lo shapeCasts_S1280x1024_S20x64x1024) shapeCasts_S20x64x1024_S20x65536⟩,
        ⟨S20x65536, shapeCast S20x65536 (shapeCast S20x64x1024 hi shapeCasts_S1280x1024_S20x64x1024) shapeCasts_S20x64x1024_S20x65536⟩]
        concatenates_S20x65536_S20x65536_S40x65536_d0)
      (constant S50x65536 .f32 0x00000000#32) (ix2 f q) = pair W lo' hi' f q := by
  pointwise
  simp only [h, h']
  unfold pair
  refine congrArg₂ (· + ·) (Finset.sum_congr rfl fun g _ => ?_) (Finset.sum_congr rfl fun g _ => ?_)
  · rw [mul_comm]
    refine congrArg (_ * ·) (congrArg W ?_)
    congr 1 <;> apply Fin.ext <;> simp <;> omega
  · rw [mul_comm]
    refine congrArg (_ * ·) (congrArg W ?_)
    congr 1 <;> apply Fin.ext <;> simp <;> omega

/-- The accumulator's first value. -/
theorem startAcc_eq (x : Vec Ideal S64x1024 .f32) (w : Vec Ideal S10x20x1x1 .f32) (b : Vec Ideal S20x1x1 .f32) (W : Vec Ideal S2x20x50 .f32)
    (f : Fin 50) (q : Fin 65536) :
    startAcc (F := Ideal) L x w b W (ix2 f q)
      = pair W (fun r => Net.cheb (op L) (hidden L x w b r) 0) (fun r => Net.cheb (op L) (hidden L x w b r) 1) f q := by
  have h := pair_eq W _ _ (first_eq L x w b) (rows_applied L _ (first_eq L x w b)) f q
  refine Eq.trans ?_ h
  unfold startAcc k0_pay5
  exact congrFun (shapeCast_self _ _) _

/-- Its next value. -/
theorem nextAcc_eq {lo hi : Vec Ideal S1x1280x1024 .f32} {k : ℕ} (h : ∀ r n, lo (ix3 0 r n) = Net.cheb (op L) (u r) k n)
    (h' : ∀ r n, hi (ix3 0 r n) = Net.cheb (op L) (u r) (k + 1) n) (a : Vec Ideal S50x65536 .f32) (W : Vec Ideal S2x20x50 .f32)
    (f : Fin 50) (q : Fin 65536) :
    nextAcc (F := Ideal) (k0_pay12 L) lo hi a W (ix2 f q)
      = a (ix2 f q) + pair W (fun r => Net.cheb (op L) (u r) (k + 2)) (fun r => Net.cheb (op L) (u r) (k + 3)) f q := by
  have e := pair_eq W _ _ (next_lo L h h') (next_hi L h h') f q
  rw [← e]
  unfold nextAcc k0_pay6 k0_pay32
  exact congrFun (shapeCast_self _ _) _

/-- The block of the result: bias, positive part, and the product with the unit matrix that transposes it. -/
theorem quarter_eq (a : Vec Ideal S50x16384 .f32) (b : Vec Ideal S50x1 .f32) (e : Vec Ideal S50x50 .f32)
    (he : ∀ i j, e (ix2 i j) = if i = j then 1 else 0) (r : Fin 16384) (f : Fin 50) :
    quarter (F := Ideal) a b e (ix2 r f) = max (a (ix2 f r) + b (ix2 f 0)) 0 := by
  refine Eq.trans ?_ (Net.sum_mul_unit (fun i : Fin 50 => max (a (ix2 i r) + b (ix2 i 0)) 0) f)
  unfold quarter
  pointwise [k0_pay7]
  simp only [he]

end Cert.Proof.Ker
end
-- ==== Proof.KerCheb.lean ====
/-
  The first kernel's result array: the second convolution's result, a row for each graph and node, the graph first.
-/
module

public import proofs.«01_k».proof.Proof.KerTwo
public import proofs.«01_k».proof.Proof.ChebData
public import Idealize.ShloMosaic.Lib.Pipeline.ValueKit

@[expose] public section

set_option maxRecDepth 16384

noncomputable section

namespace Cert.Proof.Ker

open Idealize.ShloMosaic Idealize.ShloMosaic.TcCoe Cert.KernelIdeal Cert.KernelIdeal.Gen Cert.Proof Cert.Proof.Cheb
open Idealize.ShloMosaic.Pipeline (Dat Cfg Window)

/-- Where each window's block lies, by the point. -/
theorem place : ∀ t : Fin cfg0.N, win0_0.index t = ![0, 0] ∧ win0_1.index t = ![0, 0] ∧ win0_2.index t = ![0, 0, 0, 0] ∧ win0_3.index t = ![0, 0, 0]
    ∧ win0_4.index t = ![min t.val 4, 0, 0] ∧ win0_5.index t = ![0, 0] ∧ win0_6.index t = ![0, 0] ∧ win0_7.index t = ![t.val - 5, 0] :=
  (by decide +kernel : ∀ t : Fin grid0.N, _)

variable (W : Dev nD → Valuation τ sig (Elt Ideal)) (c : Dev nD)

/-! ## The arrays at the region's entry, and the blocks -/

/-- The signals, a row for each graph. -/
abbrev sigArr : Vec Ideal S64x1024 .f32 := W c (Proc.devRef .tc main_v0)
/-- The operator's matrix. -/
abbrev opArr : Vec Ideal S1024x1024 .f32 := W c (Proc.devRef .tc main_arg1)
/-- The first layer's weights. -/
abbrev oneArr : Vec Ideal S10x20x1x1 .f32 := W c (Proc.devRef .tc main_v2)
/-- Its biases. -/
abbrev oneBias : Vec Ideal S20x1x1 .f32 := W c (Proc.devRef .tc main_v3)
/-- The second layer's weights. -/
abbrev twoArr : Vec Ideal S10x20x50 .f32 := W c (Proc.devRef .tc main_arg4)
/-- Its biases. -/
abbrev twoBias : Vec Ideal S50x1 .f32 := W c (Proc.devRef .tc main_v10)
/-- The matrix that the result is transposed by. -/
abbrev unitArr : Vec Ideal S50x50 .f32 := W c (Proc.devRef .tc main_v9)

/-- The signals' block is the whole of them. -/
theorem blk_0 (t : Fin cfg0.N) : blk W c 0 t = sigArr W c := by funext j; blk_ext [blk, place t]
/-- So is the matrix's. -/
theorem blk_1 (t : Fin cfg0.N) : blk W c 1 t = opArr W c := by funext j; blk_ext [blk, place t]
/-- So is that of the first layer's weights. -/
theorem blk_2 (t : Fin cfg0.N) : blk W c 2 t = oneArr W c := by funext j; blk_ext [blk, place t]
/-- So is that of its biases. -/
theorem blk_3 (t : Fin cfg0.N) : blk W c 3 t = oneBias W c := by funext j; blk_ext [blk, place t]
/-- So is that of the second layer's biases. -/
theorem blk_5 (t : Fin cfg0.N) : blk W c 5 t = twoBias W c := by funext j; blk_ext [blk, place t]
/-- So is that of the transposing matrix. -/
theorem blk_6 (t : Fin cfg0.N) : blk W c 6 t = unitArr W c := by funext j; blk_ext [blk, place t]

/-- Point `t` of the recurrence sees the weights of terms `2 t` and `2 t + 1`. -/
theorem blk_4 (t : Fin cfg0.N) (h : t.val < 5) (s : Fin 2) (g : Fin 20) (f : Fin 50) :
    (blk W c 4 t : Vec Ideal S2x20x50 .f32) (ix3 s g f) = twoArr W c (ix3 ⟨2 * t.val + s, by omega⟩ g f) := by
  have : min t.val 4 = t.val := by omega
  blk_ext [blk, place t, this]

/-! ## The terms -/

/-- The first convolution's result, a signal for each feature and graph. -/
abbrev row (r : Fin 1280) : Net.Signal := hidden (opArr W c) (sigArr W c) (oneArr W c) (oneBias W c) r

/-- The doubled operator is made from the operator's array. -/
theorem twice_eq : twice W c = k0_pay12 (opArr W c) := congrArg k0_pay12 (blk_1 W c (pt 0))

/-- After point `k` the scratch holds terms `2 k` and `2 k + 1` of the second recursion. -/
theorem terms_eq : ∀ k : ℕ, (∀ r n, (terms W c k).1 (ix3 0 r n) = Net.cheb (op (opArr W c)) (row W c r) (2 * k) n)
    ∧ ∀ r n, (terms W c k).2 (ix3 0 r n) = Net.cheb (op (opArr W c)) (row W c r) (2 * k + 1) n
  | 0 => by
    unfold terms
    rw [blk_0, blk_1, blk_2, blk_3]
    exact ⟨fun r n => (rows_slot _ r n).trans (first_eq _ _ _ _ r n),
      fun r n => (rows_slot _ r n).trans (rows_applied _ _ (first_eq _ _ _ _) r n)⟩
  | k + 1 => by
    obtain ⟨h, h'⟩ := terms_eq k
    unfold terms
    rw [twice_eq]
    exact ⟨fun r n => (rows_slot _ r n).trans (next_lo _ h h' r n), fun r n => (rows_slot _ r n).trans (next_hi _ h h' r n)⟩

/-! ## The sums -/

/-- What term `j` adds to the accumulator. -/
def part (f : Fin 50) (q : Fin 65536) (j : ℕ) : EReal :=
  if h : j < 10 then ∑ g : Fin 20, Net.cheb (op (opArr W c)) (row W c ⟨g * 64 + q / 1024, by omega⟩) j ⟨q % 1024, by omega⟩ * twoArr W c (ix3 ⟨j, h⟩ g f) else 0

/-- What point `k` adds to the sums: the parts of its two terms. -/
theorem pair_part (t : Fin cfg0.N) (k : ℕ) (hk : k < 5) (ht : t.val = k) (f : Fin 50) (q : Fin 65536) :
    pair (blk W c 4 t) (fun r => Net.cheb (op (opArr W c)) (row W c r) (2 * k)) (fun r => Net.cheb (op (opArr W c)) (row W c r) (2 * k + 1)) f q
      = part W c f q (2 * k) + part W c f q (2 * k + 1) := by
  subst ht
  unfold pair part
  rw [dif_pos (show 2 * t.val < 10 by omega), dif_pos (show 2 * t.val + 1 < 10 by omega)]
  simp only [blk_4 W c t hk]
  rfl

/-- The number of a point of the recurrence. -/
theorem pt_eq (k : ℕ) (h : k < 5) : (pt k).val = k := Nat.mod_eq_of_lt (by omega)

/-- After point `k` the sums hold the parts of the first `2 k + 2` terms. -/
theorem sums_eq (f : Fin 50) (q : Fin 65536) : ∀ k : ℕ, k < 5 → sums W c k (ix2 f q) = ∑ j ∈ Finset.range (2 * k + 2), part W c f q j
  | 0, _ => by
    unfold sums
    rw [blk_0, blk_1, blk_2, blk_3]
    refine (startAcc_eq _ _ _ _ _ f q).trans ((pair_part W c (pt 0) 0 (by omega) rfl f q).trans ?_)
    rw [Finset.sum_range_succ, Finset.sum_range_succ, Finset.sum_range_zero, zero_add]
  | k + 1, hk => by
    unfold sums
    rw [twice_eq]
    refine (nextAcc_eq _ (terms_eq W c k).1 (terms_eq W c k).2 _ _ f q).trans ?_
    rw [sums_eq f q k (by omega), show 2 * (k + 1) + 2 = 2 * k + 2 + 1 + 1 from rfl, Finset.sum_range_succ _ (2 * k + 2 + 1),
      Finset.sum_range_succ _ (2 * k + 2), add_assoc]
    exact congrArg _ (pair_part W c (pt (k + 1)) (k + 1) hk (pt_eq _ hk) f q)

/-! ## The result -/

/-- The second convolution's result for one graph. -/
abbrev features (i : Fin 64) : Fin 50 → Net.Signal :=
  Net.second (op (opArr W c)) (Net.first (op (opArr W c)) (input (sigArr W c) i) (weightOne (oneArr W c)) (biasOne (oneBias W c)))
    (fun k g f => twoArr W c (ix3 k g f)) (fun f => twoBias W c (ix2 f 0))

/-- Row `g * 64 + i` is feature `g` of graph `i`. -/
theorem row_eq (g : Fin 20) (i : Fin 64) (r : Fin 1280) (h : r.val = g * 64 + i) :
    row W c r = Net.first (op (opArr W c)) (input (sigArr W c) i) (weightOne (oneArr W c)) (biasOne (oneBias W c)) g := by
  have e : (⟨r % 64, by omega⟩ : Fin 64) = i := Fin.ext (by show r.val % 64 = i.val; omega)
  have e' : (⟨r / 64, by omega⟩ : Fin 20) = g := Fin.ext (by show r.val / 64 = g.val; omega)
  unfold row hidden
  rw [e, e']

/-- The last sums, with the bias and the cut at zero, are the second layer's features. -/
theorem sums_last (f : Fin 50) (q : Fin 65536) :
    max (sums W c 4 (ix2 f q) + twoBias W c (ix2 f 0)) 0 = features W c ⟨q / 1024, by omega⟩ f ⟨q % 1024, by omega⟩ := by
  rw [sums_eq W c f q 4 (by omega), Finset.sum_range]
  unfold features Net.second
  refine congrArg (fun s => max (s + _) 0) (Finset.sum_congr rfl fun k _ => ?_)
  unfold part
  rw [dif_pos k.isLt]
  exact Finset.sum_congr rfl fun g _ => by rw [row_eq W c g ⟨q / 1024, by omega⟩ _ rfl]

/-- The result array. -/
def result : Vec Ideal S65536x50 .bf16 := fun y =>
  features W c ⟨(y 0).val / 1024, Nat.div_lt_of_lt_mul (y 0).isLt⟩ (y 1) ⟨(y 0).val % 1024, Nat.mod_lt _ (by decide)⟩

/-- What a late point writes is its quarter of the result. -/
theorem out_apply (he : ∀ i j, unitArr W c (ix2 i j) = if i = j then 1 else 0) (t : Fin cfg0.N) (h : 5 ≤ t.val) (r : Fin 16384) (f : Fin 50) :
    out W c t (ix2 r f) = result W c (ix2 ⟨(t.val - 5) * 16384 + r, by have := Nat.lt_of_lt_of_eq t.isLt N_0; omega⟩ f) := by
  have ht := Nat.lt_of_lt_of_eq t.isLt N_0
  unfold out
  rw [blk_5, blk_6]
  refine (quarter_eq _ _ _ he r f).trans ?_
  refine Eq.trans ?_ (sums_last W c f ⟨(t.val - 5) * 16384 + r, by omega⟩)
  refine congrArg (fun s => max (s + _) 0) (congrArg (sums W c 4) (funext fun a => Fin.ext ?_))
  match a with
  | ⟨0, _⟩ => show 0 + 1 * f.val = f.val; omega
  | ⟨1, _⟩ => show 16384 * ((t.val - 5) % 4) + 1 * r.val = (t.val - 5) * 16384 + r.val; omega

/-- Only late points write back. -/
theorem flush_late : ∀ t : Fin cfg0.N, (cfg0.win 7).flush t = true → 5 ≤ t.val :=
  (by decide +kernel : ∀ t : Fin grid0.N, (cfg0.win 7).flush t = true → 5 ≤ t.val)

/-- The array that the launch writes back is the second layer's features, where the transposing matrix is the identity. -/
theorem arr_eq (he : ∀ i j, unitArr W c (ix2 i j) = if i = j then 1 else 0) : (Cheb.dat W c).arrAt 7 cfg0.N = result W c := by
  refine (Cheb.dat W c).arrAt_eq_of_covers 7 _ (by decide +kernel) fun t hf y => ?_
  have h := flush_late t hf
  blk_simp
  have e : y = ix2 (n0 := 16384) (n1 := 50) (y 0) (y 1) := by funext a; match a with | ⟨0, _⟩ => rfl | ⟨1, _⟩ => rfl
  refine ((congrArg (out W c t) e).trans (out_apply W c he t h (y 0) (y 1))).trans ?_
  blk_ext [place t]

end Cert.Proof.Ker
end
-- ==== Proof.KerFc.lean ====
/-
  The second kernel's result array: the logarithm of the softmax of the scores of its operands.
-/
module

public import proofs.«01_k».proof.Proof.FcData
public import proofs.«01_k».proof.Proof.Net
public import Idealize.ShloMosaic.Lib.Pipeline.ValueKit

@[expose] public section

set_option maxRecDepth 16384

noncomputable section

namespace Cert.Proof.KerFc

open Idealize.ShloMosaic Idealize.ShloMosaic.TcCoe Cert.KernelIdeal Cert.KernelIdeal.Gen Cert.Proof Cert.Proof.Fc
open Idealize.ShloMosaic.Pipeline (Dat Cfg Window)

/-! ## The payloads -/

/-- A product of two blocks. -/
theorem product_apply (z : Vec Ideal S64x3200 .bf16) (w : Vec Ideal S3200x300 .f32) (i : Fin 64) (o : Fin 300) :
    k1_pay1 (F := Ideal) z w (ix2 i o) = ∑ k : Fin 3200, z (ix2 i k) * w (ix2 k o) := by
  pointwise [k1_pay1]

/-- A product added to the accumulator. -/
theorem added_apply (z : Vec Ideal S64x3200 .bf16) (w : Vec Ideal S3200x300 .f32) (a : Vec Ideal S64x300 .f32) (i : Fin 64) (o : Fin 300) :
    k1_pay3 (F := Ideal) z w a (ix2 i o) = a (ix2 i o) + k1_pay1 (F := Ideal) z w (ix2 i o) := by
  unfold k1_pay3
  generalize k1_pay1 (F := Ideal) z w = p
  pointwise

/-- The bias, the positive part, the second dense layer and the logarithm of the softmax. -/
theorem tail_apply (a : Vec Ideal S64x300 .f32) (b : Vec Ideal S1x300 .f32) (v : Vec Ideal S300x10 .f32) (d : Vec Ideal S1x10 .f32) (i : Fin 64) (q : Fin 10) :
    k1_pay4 (F := Ideal) a b v d (ix2 i q)
      = Net.logSoftmax (fun q => (∑ o : Fin 300, max (a (ix2 i o) + b (ix2 0 o)) 0 * v (ix2 o q)) + d (ix2 0 q)) q := by
  pointwise [k1_pay4]
  rw [Net.bottom_f32]
  rfl

/-! ## The arrays at the region's entry, and the blocks -/

/-- Where each window's block lies, by the point. -/
theorem place : ∀ t : Fin cfg1.N, win1_0.index t = ![0, t.val] ∧ win1_1.index t = ![t.val, 0] ∧ win1_2.index t = ![0, 0] ∧ win1_3.index t = ![0, 0]
    ∧ win1_4.index t = ![0, 0] ∧ win1_5.index t = ![0, 0] :=
  (by decide +kernel : ∀ t : Fin grid1.N, _)

variable (W : Dev nD → Valuation τ sig (Elt Ideal)) (c : Dev nD)

/-- The features, a row for each graph. -/
abbrev featArr : Vec Ideal S64x51200 .bf16 := W c (Proc.devRef .tc main_v12)
/-- The dense layer's weights. -/
abbrev denseArr : Vec Ideal S51200x300 .f32 := W c (Proc.devRef .tc main_arg6)
/-- Its biases. -/
abbrev denseBias : Vec Ideal S1x300 .f32 := W c (Proc.devRef .tc main_v13)
/-- The last layer's weights. -/
abbrev headArr : Vec Ideal S300x10 .f32 := W c (Proc.devRef .tc main_arg8)
/-- Its biases. -/
abbrev headBias : Vec Ideal S1x10 .f32 := W c (Proc.devRef .tc main_v14)

/-- Point `t` sees 3200 columns of the features. -/
theorem blk_0 (t : Fin cfg1.N) (i : Fin 64) (k : Fin 3200) :
    (blk W c 0 t : Vec Ideal S64x3200 .bf16) (ix2 i k)
      = featArr W c (ix2 i ⟨t.val * 3200 + k, by have := Nat.lt_of_lt_of_eq t.isLt N_1; omega⟩) := by
  blk_ext [blk, place t]
/-- And the same rows of the weights. -/
theorem blk_1 (t : Fin cfg1.N) (k : Fin 3200) (o : Fin 300) :
    (blk W c 1 t : Vec Ideal S3200x300 .f32) (ix2 k o)
      = denseArr W c (ix2 ⟨t.val * 3200 + k, by have := Nat.lt_of_lt_of_eq t.isLt N_1; omega⟩ o) := by
  blk_ext [blk, place t]
/-- The dense layer's biases are seen whole. -/
theorem blk_2 (t : Fin cfg1.N) : blk W c 2 t = denseBias W c := by funext j; blk_ext [blk, place t]
/-- So are the last layer's weights. -/
theorem blk_3 (t : Fin cfg1.N) : blk W c 3 t = headArr W c := by funext j; blk_ext [blk, place t]
/-- And its biases. -/
theorem blk_4 (t : Fin cfg1.N) : blk W c 4 t = headBias W c := by funext j; blk_ext [blk, place t]

/-! ## The accumulator -/

/-- What point `s` adds to it. -/
def part (i : Fin 64) (o : Fin 300) (s : ℕ) : EReal :=
  if h : s < 16 then ∑ k : Fin 3200, featArr W c (ix2 i ⟨s * 3200 + k, by omega⟩) * denseArr W c (ix2 ⟨s * 3200 + k, by omega⟩ o) else 0

/-- The product of a point's blocks is its part of the sum. -/
theorem product_part (t : Fin cfg1.N) (i : Fin 64) (o : Fin 300) : k1_pay1 (F := Ideal) (blk W c 0 t) (blk W c 1 t) (ix2 i o) = part W c i o t.val := by
  rw [product_apply]
  unfold part
  rw [dif_pos (Nat.lt_of_lt_of_eq t.isLt N_1)]
  exact Finset.sum_congr rfl fun k _ => congrArg₂ (· * ·) (blk_0 W c t i k) (blk_1 W c t k o)

/-- After point `n` the accumulator holds the first `n + 1` parts. -/
theorem acc_eq (xs : Vec Ideal S64x300 .f32) (i : Fin 64) (o : Fin 300) : ∀ (n : ℕ) (h : n + 1 ≤ cfg1.N),
    acc W c xs (n + 1) h (ix2 i o) = ∑ s ∈ Finset.range (n + 1), part W c i o s
  | 0, h => by
    unfold acc step
    rw [if_pos ((isFirst_iff ⟨0, h⟩).mpr rfl), Finset.sum_range_one]
    exact (congrFun (shapeCast_self _ _) _).trans (product_part W c ⟨0, h⟩ i o)
  | n + 1, h => by
    rw [acc]
    unfold step
    rw [if_neg (fun e => absurd ((isFirst_iff ⟨n + 1, h⟩).mp e) (Nat.succ_ne_zero n)), Finset.sum_range_succ, ← acc_eq xs i o n (Nat.le_of_succ_le h)]
    refine (added_apply _ _ _ i o).trans ?_
    exact congrArg (acc W c xs (n + 1) (Nat.le_of_succ_le h) (ix2 i o) + ·) (product_part W c ⟨n + 1, h⟩ i o)

/-- The points' parts of a sum over the features make up the sum. -/
theorem sum_parts (f : Fin 51200 → EReal) : ∑ s : Fin 16, ∑ k : Fin 3200, f ⟨s.val * 3200 + k.val, by omega⟩ = ∑ j, f j :=
  Fin.sum_mul_add_congr (fun _ _ _ => rfl) (by norm_num)

/-- After the last point it holds the product of the features with the weights. -/
theorem acc_last (t : Fin cfg1.N) (ht : t.val = 15) (i : Fin 64) (o : Fin 300) :
    accAfter W c t (ix2 i o) = ∑ j : Fin 51200, featArr W c (ix2 i j) * denseArr W c (ix2 j o) := by
  unfold accAfter
  rw [acc_eq, ht, Finset.sum_range, ← sum_parts]
  refine Finset.sum_congr rfl fun s _ => ?_
  unfold part
  rw [dif_pos s.isLt]

/-! ## The result -/

/-- The result array. -/
def result : Vec Ideal S64x10 .f32 := fun y =>
  Net.logSoftmax (Net.scores (fun j => featArr W c (ix2 (y 0) j)) (fun j o => denseArr W c (ix2 j o)) (fun o => denseBias W c (ix2 0 o))
    (fun o q => headArr W c (ix2 o q)) (fun q => headBias W c (ix2 0 q))) (y 1)

/-- What the last point writes is the result. -/
theorem last_apply (t : Fin cfg1.N) (ht : t.val = 15) (i : Fin 64) (q : Fin 10) :
    k1_pay4 (F := Ideal) (accAfter W c t) (blk W c 2 t) (blk W c 3 t) (blk W c 4 t) (ix2 i q) = result W c (ix2 i q) := by
  rw [blk_2, blk_3, blk_4, tail_apply]
  simp only [acc_last W c t ht]
  rfl

/-- The array that the launch writes back is the result. -/
theorem arr_eq : (Fc.dat W c).arrAt 5 cfg1.N = result W c := by
  refine (Fc.dat W c).arrAt_eq_of_covers 5 _ (by decide +kernel) fun t hf y => ?_
  have ht : t.val = 15 := by have h := (flush1_5 t).mp hf; have := Nat.lt_of_lt_of_eq t.isLt N_1; omega
  blk_simp
  have e : y = ix2 (n0 := 64) (n1 := 10) (y 0) (y 1) := by funext a; match a with | ⟨0, _⟩ => rfl | ⟨1, _⟩ => rfl
  show k1_pay4 (accAfter W c t) (blk W c 2 t) (blk W c 3 t) (blk W c 4 t) y = _
  generalize hg : k1_pay4 (F := Ideal) (accAfter W c t) (blk W c 2 t) (blk W c 3 t) (blk W c 4 t) = g
  have hl : ∀ i q, g (ix2 i q) = result W c (ix2 i q) := fun i q => hg ▸ last_apply W c t ht i q
  refine ((congrArg g e).trans (hl (y 0) (y 1))).trans (congrArg (result W c) ?_)
  blk_ext [place t]

end Cert.Proof.KerFc
end
-- ==== Proof.RefLayers.lean ====
/-
  What the reference computes after each of its two graph convolutions.
-/
module

public import proofs.«01_k».proof.Proof.RefTerms
public import Idealize.ShloMosaic.Lib.Pointwise

@[expose] public section

set_option maxRecDepth 16384

noncomputable section

namespace Cert.Proof.Ref

open Idealize.ShloMosaic Cert.ReferenceIdeal Cert.ReferenceIdeal.Gen Cert.ReferenceIdeal.Read Cert.Proof

variable (x0 : FVec Ideal S64x1024x1 .f32) (x1 : FVec Ideal S1024x1024 .f32) (x2 : FVec Ideal S10x1x20 .f32) (x3 : FVec Ideal S20 .f32)
  (x4 : FVec Ideal S10x20x50 .f32) (x5 : FVec Ideal S50 .f32)

/-- The signal of graph `b`. -/
abbrev input (b : Fin 64) : Net.Signal := fun n => x0 (ix3 b n 0)
/-- The first convolution's weights. -/
abbrev weightOne : Fin 10 → Fin 20 → EReal := fun k g => x2 (ix3 k 0 g)
/-- Its biases. -/
abbrev biasOne : Fin 20 → EReal := fun g => x3 (ix1 g)
/-- The second convolution's weights. -/
abbrev weightTwo : Fin 10 → Fin 20 → Fin 50 → EReal := fun k g f => x4 (ix3 k g f)
/-- Its biases. -/
abbrev biasTwo : Fin 50 → EReal := fun f => x5 (ix1 f)

/-! ## The first convolution -/

/-- Term 1 of the reference's first recursion is the network's. -/
theorem one_1 : ∀ b n, val_main_v4 (F := Ideal) x0 x1 (ix3 b n 0) = Net.cheb (op x1) (input x0 b) 1 n := fun b n => applyOne x1 x0 b n
/-- Term 2 of the reference's first recursion is the network's. -/
theorem one_2 : ∀ b n, val_main_v13 (F := Ideal) x0 x1 (ix3 b n 0) = Net.cheb (op x1) (input x0 b) 2 n := nextOne x1 (one_1 x0 x1) (fun _ _ => rfl)
/-- Term 3 of the reference's first recursion is the network's. -/
theorem one_3 : ∀ b n, val_main_v22 (F := Ideal) x0 x1 (ix3 b n 0) = Net.cheb (op x1) (input x0 b) 3 n := nextOne x1 (one_2 x0 x1) (one_1 x0 x1)
/-- Term 4 of the reference's first recursion is the network's. -/
theorem one_4 : ∀ b n, val_main_v31 (F := Ideal) x0 x1 (ix3 b n 0) = Net.cheb (op x1) (input x0 b) 4 n := nextOne x1 (one_3 x0 x1) (one_2 x0 x1)
/-- Term 5 of the reference's first recursion is the network's. -/
theorem one_5 : ∀ b n, val_main_v40 (F := Ideal) x0 x1 (ix3 b n 0) = Net.cheb (op x1) (input x0 b) 5 n := nextOne x1 (one_4 x0 x1) (one_3 x0 x1)
/-- Term 6 of the reference's first recursion is the network's. -/
theorem one_6 : ∀ b n, val_main_v49 (F := Ideal) x0 x1 (ix3 b n 0) = Net.cheb (op x1) (input x0 b) 6 n := nextOne x1 (one_5 x0 x1) (one_4 x0 x1)
/-- Term 7 of the reference's first recursion is the network's. -/
theorem one_7 : ∀ b n, val_main_v58 (F := Ideal) x0 x1 (ix3 b n 0) = Net.cheb (op x1) (input x0 b) 7 n := nextOne x1 (one_6 x0 x1) (one_5 x0 x1)
/-- Term 8 of the reference's first recursion is the network's. -/
theorem one_8 : ∀ b n, val_main_v67 (F := Ideal) x0 x1 (ix3 b n 0) = Net.cheb (op x1) (input x0 b) 8 n := nextOne x1 (one_7 x0 x1) (one_6 x0 x1)
/-- Term 9 of the reference's first recursion is the network's. -/
theorem one_9 : ∀ b n, val_main_v76 (F := Ideal) x0 x1 (ix3 b n 0) = Net.cheb (op x1) (input x0 b) 9 n := nextOne x1 (one_8 x0 x1) (one_7 x0 x1)

/-- The first convolution's result. -/
theorem first_eq (b : Fin 64) (n : Fin 1024) (g : Fin 20) :
    val_main_v84 (F := Ideal) x0 x1 x2 x3 (ix3 b n g) = Net.first (op x1) (input x0 b) (weightOne x2) (biasOne x3) g n := by
  pointwise [val_main_v84, val_main_v83, val_main_v82, val_main_v81, val_main_call0_v0, val_main_call0_cst,
    val_main_v0, val_main_v1, val_main_v2, val_main_v5, val_main_v6, val_main_v7, val_main_v8, val_main_v14, val_main_v15, val_main_v16, val_main_v17, val_main_v23, val_main_v24, val_main_v25, val_main_v26, val_main_v32, val_main_v33, val_main_v34, val_main_v35, val_main_v41, val_main_v42, val_main_v43, val_main_v44, val_main_v50, val_main_v51, val_main_v52, val_main_v53, val_main_v59, val_main_v60, val_main_v61, val_main_v62, val_main_v68, val_main_v69, val_main_v70, val_main_v71, val_main_v77, val_main_v78, val_main_v79, val_main_v80]
  simp only [Net.first]
  simp [Fin.sum_univ_castSucc]
  rw [one_1, one_2, one_3, one_4, one_5, one_6, one_7, one_8, one_9]
  rfl

/-! ## The second convolution -/

/-- Its input: a signal for each graph and each of the first convolution's features. -/
abbrev hidden (b : Fin 64) (g : Fin 20) : Net.Signal := Net.first (op x1) (input x0 b) (weightOne x2) (biasOne x3) g

/-- Term 0 of the reference's second recursion is the network's. -/
theorem two_0 : ∀ b g n, val_main_v84 (F := Ideal) x0 x1 x2 x3 (ix3 b n g) = Net.cheb (op x1) (hidden x0 x1 x2 x3 b g) 0 n :=
  fun b g n => first_eq x0 x1 x2 x3 b n g
/-- Term 1 of the reference's second recursion is the network's. -/
theorem two_1 : ∀ b g n, val_main_v89 (F := Ideal) x0 x1 x2 x3 (ix3 b n g) = Net.cheb (op x1) (hidden x0 x1 x2 x3 b g) 1 n := fun b g n =>
  (applyMany x1 (val_main_v84 (F := Ideal) x0 x1 x2 x3) b g n).trans (congrFun (congrArg (Net.apply (op x1)) (funext fun m => two_0 x0 x1 x2 x3 b g m)) n)
/-- Term 2 of the reference's second recursion is the network's. -/
theorem two_2 : ∀ b g n, val_main_v98 (F := Ideal) x0 x1 x2 x3 (ix3 b n g) = Net.cheb (op x1) (hidden x0 x1 x2 x3 b g) 2 n :=
  nextMany x1 (two_1 x0 x1 x2 x3) (two_0 x0 x1 x2 x3)
/-- Term 3 of the reference's second recursion is the network's. -/
theorem two_3 : ∀ b g n, val_main_v107 (F := Ideal) x0 x1 x2 x3 (ix3 b n g) = Net.cheb (op x1) (hidden x0 x1 x2 x3 b g) 3 n :=
  nextMany x1 (two_2 x0 x1 x2 x3) (two_1 x0 x1 x2 x3)
/-- Term 4 of the reference's second recursion is the network's. -/
theorem two_4 : ∀ b g n, val_main_v116 (F := Ideal) x0 x1 x2 x3 (ix3 b n g) = Net.cheb (op x1) (hidden x0 x1 x2 x3 b g) 4 n :=
  nextMany x1 (two_3 x0 x1 x2 x3) (two_2 x0 x1 x2 x3)
/-- Term 5 of the reference's second recursion is the network's. -/
theorem two_5 : ∀ b g n, val_main_v125 (F := Ideal) x0 x1 x2 x3 (ix3 b n g) = Net.cheb (op x1) (hidden x0 x1 x2 x3 b g) 5 n :=
  nextMany x1 (two_4 x0 x1 x2 x3) (two_3 x0 x1 x2 x3)
/-- Term 6 of the reference's second recursion is the network's. -/
theorem two_6 : ∀ b g n, val_main_v134 (F := Ideal) x0 x1 x2 x3 (ix3 b n g) = Net.cheb (op x1) (hidden x0 x1 x2 x3 b g) 6 n :=
  nextMany x1 (two_5 x0 x1 x2 x3) (two_4 x0 x1 x2 x3)
/-- Term 7 of the reference's second recursion is the network's. -/
theorem two_7 : ∀ b g n, val_main_v143 (F := Ideal) x0 x1 x2 x3 (ix3 b n g) = Net.cheb (op x1) (hidden x0 x1 x2 x3 b g) 7 n :=
  nextMany x1 (two_6 x0 x1 x2 x3) (two_5 x0 x1 x2 x3)
/-- Term 8 of the reference's second recursion is the network's. -/
theorem two_8 : ∀ b g n, val_main_v152 (F := Ideal) x0 x1 x2 x3 (ix3 b n g) = Net.cheb (op x1) (hidden x0 x1 x2 x3 b g) 8 n :=
  nextMany x1 (two_7 x0 x1 x2 x3) (two_6 x0 x1 x2 x3)
/-- Term 9 of the reference's second recursion is the network's. -/
theorem two_9 : ∀ b g n, val_main_v161 (F := Ideal) x0 x1 x2 x3 (ix3 b n g) = Net.cheb (op x1) (hidden x0 x1 x2 x3 b g) 9 n :=
  nextMany x1 (two_8 x0 x1 x2 x3) (two_7 x0 x1 x2 x3)

/-- The second convolution's result. -/
theorem second_eq (b : Fin 64) (n : Fin 1024) (f : Fin 50) :
    val_main_v169 (F := Ideal) x0 x1 x2 x3 x4 x5 (ix3 b n f) = Net.second (op x1) (hidden x0 x1 x2 x3 b) (weightTwo x4) (biasTwo x5) f n := by
  pointwise [val_main_v169, val_main_v168, val_main_v167, val_main_v166, val_main_call1_v0, val_main_call1_cst,
    val_main_v85, val_main_v86, val_main_v87, val_main_v90, val_main_v91, val_main_v92, val_main_v93, val_main_v99, val_main_v100, val_main_v101, val_main_v102, val_main_v108, val_main_v109, val_main_v110, val_main_v111, val_main_v117, val_main_v118, val_main_v119, val_main_v120, val_main_v126, val_main_v127, val_main_v128, val_main_v129, val_main_v135, val_main_v136, val_main_v137, val_main_v138, val_main_v144, val_main_v145, val_main_v146, val_main_v147, val_main_v153, val_main_v154, val_main_v155, val_main_v156, val_main_v162, val_main_v163, val_main_v164, val_main_v165]
  simp only [Net.second, two_0, two_1, two_2, two_3, two_4, two_5, two_6, two_7, two_8, two_9]
  simp only [Fin.sum_univ_castSucc (n := 9), Fin.sum_univ_castSucc (n := 8), Fin.sum_univ_castSucc (n := 7), Fin.sum_univ_castSucc (n := 6),
    Fin.sum_univ_castSucc (n := 5), Fin.sum_univ_castSucc (n := 4), Fin.sum_univ_castSucc (n := 3), Fin.sum_univ_castSucc (n := 2),
    Fin.sum_univ_castSucc (n := 1), Fin.sum_univ_castSucc (n := 0), Finset.univ_eq_empty, Finset.sum_empty, zero_add]
  rfl

end Cert.Proof.Ref
end
-- ==== Proof.RefDense.lean ====
module
public import proofs.«01_k».proof.Proof.RefLayers
@[expose] public section
set_option maxRecDepth 16384

/-! The reference's dense layers and the logarithm of the softmax, read at an index. -/

noncomputable section
namespace Cert.Proof.Ref
open Idealize.ShloMosaic Cert.ReferenceIdeal Cert.ReferenceIdeal.Gen Cert.ReferenceIdeal.Read Cert.Proof

variable (x0 : FVec Ideal S64x1024x1 .f32) (x1 : FVec Ideal S1024x1024 .f32) (x2 : FVec Ideal S10x1x20 .f32) (x3 : FVec Ideal S20 .f32)
  (x4 : FVec Ideal S10x20x50 .f32) (x5 : FVec Ideal S50 .f32) (x6 : FVec Ideal S51200x300 .f32) (x7 : FVec Ideal S300 .f32) (x8 : FVec Ideal S300x10 .f32) (x9 : FVec Ideal S10 .f32)

/-- The dense layer's weights. -/
abbrev dense (j : Fin 51200) (o : Fin 300) : EReal := x6 (ix2 j o)
/-- Its biases. -/
abbrev denseBias (o : Fin 300) : EReal := x7 (ix1 o)
/-- The last layer's weights. -/
abbrev head (o : Fin 300) (q : Fin 10) : EReal := x8 (ix2 o q)
/-- Its biases. -/
abbrev headBias (q : Fin 10) : EReal := x9 (ix1 q)

/-- The features of graph `b`. -/
abbrev features (b : Fin 64) : Fin 50 → Net.Signal := Net.second (op x1) (hidden x0 x1 x2 x3 b) (weightTwo x4) (biasTwo x5)

/-- The scores before the softmax. -/
theorem scores_eq (b : Fin 64) (q : Fin 10) :
    val_main_v179 (F := Ideal) x0 x1 x2 x3 x4 x5 x6 x7 x8 x9 (ix2 b q)
      = Net.scores (Net.flat (features x0 x1 x2 x3 x4 x5 b)) (dense x6) (denseBias x7) (head x8) (headBias x9) q := by
  pointwise [val_main_v179, val_main_v178, val_main_v177, val_main_v176, val_main_v175, val_main_v174, val_main_v173, val_main_v172,
    val_main_v171, val_main_v170, val_main_call2_v0, val_main_call2_cst]
  simp only [second_eq]
  rfl

/-- The scores with the largest of their row taken off. -/
theorem shifted_eq (b : Fin 64) (q : Fin 10) :
    val_main_call3_v5 (F := Ideal) x0 x1 x2 x3 x4 x5 x6 x7 x8 x9 (ix2 b q)
      = val_main_v179 (F := Ideal) x0 x1 x2 x3 x4 x5 x6 x7 x8 x9 (ix2 b q)
        - Net.peak (fun k => val_main_v179 (F := Ideal) x0 x1 x2 x3 x4 x5 x6 x7 x8 x9 (ix2 b k)) := by
  unfold val_main_call3_v5 val_main_call3_v4 val_main_call3_v3 val_main_call3_v2 val_main_call3_v0
  generalize val_main_v179 (F := Ideal) x0 x1 x2 x3 x4 x5 x6 x7 x8 x9 = y
  pointwise [val_main_call3_cst, val_main_call3_v1, val_main_call3_cst_0]
  rw [Net.bottom_f32]
  exact congrArg (y (ix2 b q) - ·) (Net.max_peak fun k => y (ix2 b k))

/-- The reference's result. -/
theorem result_eq (b : Fin 64) (q : Fin 10) :
    val_main_v180 (F := Ideal) x0 x1 x2 x3 x4 x5 x6 x7 x8 x9 (ix2 b q)
      = Net.logSoftmax (Net.scores (Net.flat (features x0 x1 x2 x3 x4 x5 b)) (dense x6) (denseBias x7) (head x8) (headBias x9)) q := by
  have h : val_main_v180 (F := Ideal) x0 x1 x2 x3 x4 x5 x6 x7 x8 x9 (ix2 b q)
      = val_main_call3_v5 (F := Ideal) x0 x1 x2 x3 x4 x5 x6 x7 x8 x9 (ix2 b q)
        - Ideal.log (∑ k, Ideal.exp (val_main_call3_v5 (F := Ideal) x0 x1 x2 x3 x4 x5 x6 x7 x8 x9 (ix2 b k))) := by
    unfold val_main_v180 val_main_call3_v10 val_main_call3_v9 val_main_call3_v8 val_main_call3_v7 val_main_call3_v6
    generalize val_main_call3_v5 (F := Ideal) x0 x1 x2 x3 x4 x5 x6 x7 x8 x9 = y
    pointwise [val_main_call3_cst_1]
  rw [h]
  simp only [shifted_eq, scores_eq]
  rfl

end Cert.Proof.Ref
end
-- ==== Proof.Match.lean ====
/-
  The idealized kernel's result is the idealized reference's, where the operator's matrix is symmetric.
-/
module

public import proofs.«01_k».proof.Proof.KerHost
public import proofs.«01_k».proof.Proof.KerCheb
public import proofs.«01_k».proof.Proof.KerFc
public import proofs.«01_k».proof.Proof.RefDense
public import proofs.«01_k».proof.Defs
public import proofs.«01_k».proof.Proof.Gen.Pre_symmetric
public import Idealize.ShloMosaic.Lib.ReduceAll

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ) (c : Dev nD)

/-! ## The arguments -/

/-- The signals. -/
abbrev arg0 : Vec Ideal S64x1024x1 .f32 := m ((c.tc : Thread nD τ).loc main_arg0)
/-- The operator's matrix. -/
abbrev arg1 : Vec Ideal S1024x1024 .f32 := m ((c.tc : Thread nD τ).loc main_arg1)
/-- The first layer's weights. -/
abbrev arg2 : Vec Ideal S10x1x20 .f32 := m ((c.tc : Thread nD τ).loc main_arg2)
/-- Its biases. -/
abbrev arg3 : Vec Ideal S20 .f32 := m ((c.tc : Thread nD τ).loc main_arg3)
/-- The second layer's weights. -/
abbrev arg4 : Vec Ideal S10x20x50 .f32 := m ((c.tc : Thread nD τ).loc main_arg4)
/-- Its biases. -/
abbrev arg5 : Vec Ideal S50 .f32 := m ((c.tc : Thread nD τ).loc main_arg5)
/-- The dense layer's weights. -/
abbrev arg6 : Vec Ideal S51200x300 .f32 := m ((c.tc : Thread nD τ).loc main_arg6)
/-- Its biases. -/
abbrev arg7 : Vec Ideal S300 .f32 := m ((c.tc : Thread nD τ).loc main_arg7)
/-- The last layer's weights. -/
abbrev arg8 : Vec Ideal S300x10 .f32 := m ((c.tc : Thread nD τ).loc main_arg8)
/-- Its biases. -/
abbrev arg9 : Vec Ideal S10 .f32 := m ((c.tc : Thread nD τ).loc main_arg9)

/-- The operator's matrix is symmetric. -/
abbrev Symmetric : Prop := ∀ i j : Fin 1024, arg1 m c (ix2 i j) = arg1 m c (ix2 j i)

/-- What the precondition says of the matrix: the comparison with its transpose holds at every index. -/
theorem symmetric_of_pre (h : Cert.Pre_KernelIdeal_symmetric m) : Symmetric m c := fun i j => by
  have e := congrFun (h c) (fun a => a.elim0)
  have : Subsingleton (Cert.Pre_symmetric.S_).Idx := ⟨fun _ _ => funext fun a => a.elim0⟩
  have e' := Host.reduce_andi_all _ _ _ _ _ e (ix2 (n0 := 1024) (n1 := 1024) i j)
  generalize hL : (m ((c.tc : Thread nD τ).loc main_arg1) : Vec Ideal S1024x1024 .f32) = L at e' ⊢
  pointwise at e'
  subst hL
  by_contra hn
  rw [decide_eq_false hn] at e'
  exact absurd e' (by decide)

/-! ## The first kernel -/

/-- Of a symmetric matrix, the operator that acts from the right is the one that acts from the left. -/
theorem op_eq (h : Symmetric m c) : Ker.op (Ker.opArr (V1 m) c) = Ref.op (arg1 m c) := by
  funext i j
  exact (congrFun (Host.kept_one m c main_arg1 (by decide)) (ix2 i j)).trans (h i j)

/-- The kernel's features of a graph are the reference's. -/
theorem features_eq (h : Symmetric m c) (i : Fin 64) :
    Ker.features (V1 m) c i = Ref.features (arg0 m c) (arg1 m c) (arg2 m c) (arg3 m c) (arg4 m c) (arg5 m c) i := by
  have e0 : Ker.input (Ker.sigArr (V1 m) c) i = Ref.input (arg0 m c) i := funext fun n => Host.v0_apply m c i n
  have e2 : Ker.weightOne (Ker.oneArr (V1 m) c) = Ref.weightOne (arg2 m c) := funext fun k => funext fun g => Host.v2_apply m c k g
  have e3 : Ker.biasOne (Ker.oneBias (V1 m) c) = Ref.biasOne (arg3 m c) := funext fun g => Host.v3_apply m c g
  have e4 : (fun k g f => Ker.twoArr (V1 m) c (ix3 k g f)) = Ref.weightTwo (arg4 m c) :=
    funext fun k => funext fun g => funext fun f => congrFun (Host.kept_one m c main_arg4 (by decide)) (ix3 k g f)
  have e5 : (fun f => Ker.twoBias (V1 m) c (ix2 f 0)) = Ref.biasTwo (arg5 m c) := funext fun f => Host.v10_apply m c f
  unfold Ker.features Ref.features Ref.hidden
  rw [op_eq m c h, e0, e2, e3, e4, e5]

/-- What the second kernel reads of the first. -/
theorem flat_eq (h : Symmetric m c) (i : Fin 64) :
    (fun j => KerFc.featArr (V3 m (outs m)) c (ix2 i j))
      = Net.flat (Ref.features (arg0 m c) (arg1 m c) (arg2 m c) (arg3 m c) (arg4 m c) (arg5 m c) i) := by
  funext j
  refine (Host.v12_apply m c i j).trans ?_
  refine (congrFun ((V2_main_v11 m c).trans (Ker.arr_eq (V1 m) c (Host.v9_apply m c))) _).trans ?_
  rw [← features_eq m c h]
  unfold Net.flat Ker.result
  have e : (⟨(i.val * 1024 + j.val / 50) / 1024, by omega⟩ : Fin 64) = i := Fin.ext (by show (i.val * 1024 + j.val / 50) / 1024 = i.val; omega)
  have e' : (⟨(i.val * 1024 + j.val / 50) % 1024, by omega⟩ : Fin 1024) = ⟨j.val / 50, by omega⟩ :=
    Fin.ext (by show (i.val * 1024 + j.val / 50) % 1024 = j.val / 50; omega)
  exact congr (congrFun (congrArg (Ker.features (V1 m) c) e) _) e'

/-! ## The second -/

/-- The kernel's result at an index. -/
theorem kernel_apply (h : Symmetric m c) (i : Fin 64) (q : Fin 10) :
    (V4 m (outs m) c (Proc.devRef .tc main_v15) : Vec Ideal S64x10 .f32) (ix2 i q)
      = Net.logSoftmax (Net.scores (Net.flat (Ref.features (arg0 m c) (arg1 m c) (arg2 m c) (arg3 m c) (arg4 m c) (arg5 m c) i))
          (Ref.dense (arg6 m c)) (Ref.denseBias (arg7 m c)) (Ref.head (arg8 m c)) (Ref.headBias (arg9 m c))) q := by
  refine (congrFun ((V4_main_v15 m c).trans (KerFc.arr_eq (V3 m (outs m)) c)) (ix2 i q)).trans ?_
  have e6 : (fun j o => KerFc.denseArr (V3 m (outs m)) c (ix2 j o)) = Ref.dense (arg6 m c) :=
    funext fun j => funext fun o => congrFun (Host.kept_three m c main_arg6 (by decide) (by decide) (by decide)) (ix2 j o)
  have e7 : (fun o => KerFc.denseBias (V3 m (outs m)) c (ix2 0 o)) = Ref.denseBias (arg7 m c) := funext fun o => Host.v13_apply m c o
  have e8 : (fun o q => KerFc.headArr (V3 m (outs m)) c (ix2 o q)) = Ref.head (arg8 m c) :=
    funext fun o => funext fun q => congrFun (Host.kept_three m c main_arg8 (by decide) (by decide) (by decide)) (ix2 o q)
  have e9 : (fun q => KerFc.headBias (V3 m (outs m)) c (ix2 0 q)) = Ref.headBias (arg9 m c) := funext fun q => Host.v14_apply m c q
  show Net.logSoftmax (Net.scores (fun j => KerFc.featArr (V3 m (outs m)) c (ix2 i j)) (fun j o => KerFc.denseArr (V3 m (outs m)) c (ix2 j o))
    (fun o => KerFc.denseBias (V3 m (outs m)) c (ix2 0 o)) (fun o q => KerFc.headArr (V3 m (outs m)) c (ix2 o q))
    (fun q => KerFc.headBias (V3 m (outs m)) c (ix2 0 q))) q = _
  rw [flat_eq m c h, e6, e7, e8, e9]

/-- The kernel's result is the reference's. -/
theorem results_eq (h : Symmetric m c) :
    (V4 m (outs m) c (Proc.devRef .tc main_v15) : Vec Ideal S64x10 .f32)
      = Cert.ReferenceIdeal.Read.val_main_v180 (F := Ideal) (arg0 m c) (arg1 m c) (arg2 m c) (arg3 m c) (arg4 m c) (arg5 m c) (arg6 m c) (arg7 m c)
          (arg8 m c) (arg9 m c) := by
  funext y
  have e : y = ix2 (n0 := 64) (n1 := 10) (y 0) (y 1) := by funext a; match a with | ⟨0, _⟩ => rfl | ⟨1, _⟩ => rfl
  rw [e]
  exact (kernel_apply m c h (y 0) (y 1)).trans (Ref.result_eq _ _ _ _ _ _ _ _ _ _ (y 0) (y 1)).symm

end Cert.Proof
end
-- ==== Proof.lean ====
/-
  The claims: the frames of the kernel, of its idealization and of the idealized reference, and that the two idealized programs end with equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_symmetric
public import proofs.«01_k».proof.Proof.Frames
public import proofs.«01_k».proof.Proof.Match
public import Idealize.ShloMosaic.Adequacy
public import Idealize.ShloMosaic.Init

@[expose] public section

noncomputable section

namespace Cert.Proof

open Idealize.ShloMosaic Idealize.SL.Sem

/-- The kernel's frame, at the hardware's floats. -/
theorem frame_kernel : Cert.quiescent_Kernel := fun m g _ => run_kernel m g _ (kernel_keeps m g)

/-- The idealized kernel's frame. -/
theorem frame_ideal : Cert.quiescent_KernelIdeal := fun m g _ => kernel_keeps m g

/-- The same under the precondition. -/
theorem frame_ideal_symmetric : Cert.quiescent_KernelIdeal_pre_symmetric := fun m g _ => kernel_keeps m g

/-- The idealized reference's frame: it has no semaphores. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same under the precondition. -/
theorem frame_reference_symmetric : Cert.quiescent_ReferenceIdeal_pre_symmetric := fun m g _ => frame_reference m g trivial

/-- Under the precondition, and on equal arguments, the two idealized programs end with the same result: what the kernel's second launch writes back. -/
theorem algebraic_symmetric : Cert.algebraic_KernelIdeal_ReferenceIdeal_pre_symmetric := fun m g m' g' hp hm => by
  refine ⟨fun c => Cert.KernelIdeal.Gen.V4 m (outs m) c (Proc.devRef .tc Cert.KernelIdeal.main_v15), ?_, ?_⟩
  · refine (θ_run Cert.KernelIdeal.defs _ _).mono (fun r h c => ?_) (kernel_ends m g)
    exact ⟨(h.1 c).2, (h.1 c).1⟩
  · refine (θ_run Cert.ReferenceIdeal.defs _ _).mono (fun r h c => ?_) (Cert.ReferenceIdeal.Value.run (F := Ideal) m' g')
    refine ⟨(h c).1.trans ?_, (h c).2⟩
    refine (Cert.ReferenceIdeal.Read.val_main_v180_eq (StableHlo.launchContents m' c)).trans ?_
    obtain ⟨h0, h1, h2, h3, h4, h5, h6, h7, h8, h9⟩ := hm c
    refine (congr (congr (congr (congr (congr (congr (congr (congr (congr (congrArg (Cert.ReferenceIdeal.Read.val_main_v180 (F := Ideal)) h0) h1) h2) h3) h4) h5)
      h6) h7) h8) h9).trans ?_
    exact (results_eq m c (symmetric_of_pre m c hp)).symm

/-- All the claims. -/
theorem claim : Cert.Claim := ⟨Cert.Kernel.Gen.facts, Cert.KernelIdeal.Gen.facts, Cert.ReferenceIdeal.Gen.facts, Cert.Pre_symmetric.Gen.facts,
  frame_kernel, frame_ideal, frame_ideal_symmetric, frame_reference, frame_reference_symmetric, trivial, algebraic_symmetric⟩

end Cert.Proof

end
